-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x2048x2048 : Shape := ⟨3, ![8, 2048, 2048]⟩
abbrev S1x2048x6144 : Shape := ⟨3, ![1, 2048, 6144]⟩
abbrev S1x3x6144 : Shape := ⟨3, ![1, 3, 6144]⟩
abbrev S1x6144 : Shape := ⟨2, ![1, 6144]⟩
abbrev S1x6144x2048 : Shape := ⟨3, ![1, 6144, 2048]⟩
abbrev S2048 : Shape := ⟨1, ![2048]⟩
abbrev S2048x6144 : Shape := ⟨2, ![2048, 6144]⟩
abbrev S6144x2048 : Shape := ⟨2, ![6144, 2048]⟩
abbrev S3x6144 : Shape := ⟨2, ![3, 6144]⟩
abbrev S6144 : Shape := ⟨1, ![6144]⟩
abbrev S_ : Shape := ⟨0, ![]⟩
abbrev S8x2x6144 : Shape := ⟨3, ![8, 2, 6144]⟩
abbrev S1x2048 : Shape := ⟨2, ![1, 2048]⟩
abbrev S8x4x2x6144 : Shape := ⟨4, ![8, 4, 2, 6144]⟩
abbrev S1x512x2048 : Shape := ⟨3, ![1, 512, 2048]⟩
abbrev S1x2x1024 : Shape := ⟨3, ![1, 2, 1024]⟩
abbrev S2048x1024 : Shape := ⟨2, ![2048, 1024]⟩
abbrev S1024x2048 : Shape := ⟨2, ![1024, 2048]⟩
abbrev S3x1024 : Shape := ⟨2, ![3, 1024]⟩
abbrev S1x1024 : Shape := ⟨2, ![1, 1024]⟩
abbrev S1x1x2x1024 : Shape := ⟨4, ![1, 1, 2, 1024]⟩
abbrev S520x1024 : Shape := ⟨2, ![520, 1024]⟩
abbrev S6x8x1024 : Shape := ⟨3, ![6, 8, 1024]⟩
abbrev S512x2048 : Shape := ⟨2, ![512, 2048]⟩
abbrev S2x1024 : Shape := ⟨2, ![2, 1024]⟩
abbrev S512x1024 : Shape := ⟨2, ![512, 1024]⟩
abbrev S512 : Shape := ⟨1, ![512]⟩
abbrev S512x1 : Shape := ⟨2, ![512, 1]⟩

abbrev nBuf : Space → Nat
  | .hbm => 22
  | .vmem => 23
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .bf16⟩
  | .hbm, ⟨2, _⟩ => ⟨S1x2048x6144, .f32⟩
  | .hbm, ⟨3, _⟩ => ⟨S1x2048x6144, .f32⟩
  | .hbm, ⟨4, _⟩ => ⟨S1x3x6144, .f32⟩
  | .hbm, ⟨5, _⟩ => ⟨S1x6144, .f32⟩
  | .hbm, ⟨6, _⟩ => ⟨S1x6144x2048, .f32⟩
  | .hbm, ⟨7, _⟩ => ⟨S2048, .f32⟩
  | .hbm, ⟨8, _⟩ => ⟨S2048x6144, .f32⟩
  | .hbm, ⟨9, _⟩ => ⟨S2048x6144, .bf16⟩
  | .hbm, ⟨10, _⟩ => ⟨S2048x6144, .f32⟩
  | .hbm, ⟨11, _⟩ => ⟨S2048x6144, .bf16⟩
  | .hbm, ⟨12, _⟩ => ⟨S6144x2048, .f32⟩
  | .hbm, ⟨13, _⟩ => ⟨S6144x2048, .bf16⟩
  | .hbm, ⟨14, _⟩ => ⟨S3x6144, .f32⟩
  | .hbm, ⟨15, _⟩ => ⟨S6144, .f32⟩
  | .hbm, ⟨16, _⟩ => ⟨S1x6144, .f32⟩
  | .hbm, ⟨17, _⟩ => ⟨S_, .f32⟩
  | .hbm, ⟨18, _⟩ => ⟨S8x2x6144, .f32⟩
  | .hbm, ⟨19, _⟩ => ⟨S1x2048, .f32⟩
  | .hbm, ⟨20, _⟩ => ⟨S8x2048x2048, .f32⟩
  | .hbm, ⟨21, _⟩ => ⟨S8x4x2x6144, .f32⟩
  | .local _ .vmem, ⟨0, _⟩ => ⟨S1x512x2048, .f32⟩
  | .local _ .vmem, ⟨1, _⟩ => ⟨S1x512x2048, .f32⟩
  | .local _ .vmem, ⟨2, _⟩ => ⟨S1x2x1024, .f32⟩
  | .local _ .vmem, ⟨3, _⟩ => ⟨S1x2x1024, .f32⟩
  | .local _ .vmem, ⟨4, _⟩ => ⟨S1x512x2048, .bf16⟩
  | .local _ .vmem, ⟨5, _⟩ => ⟨S1x512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x2048, .bf16⟩
  | .local _ .vmem, ⟨11, _⟩ => ⟨S1024x2048, .bf16⟩
  | .local _ .vmem, ⟨12, _⟩ => ⟨S3x1024, .f32⟩
  | .local _ .vmem, ⟨13, _⟩ => ⟨S3x1024, .f32⟩
  | .local _ .vmem, ⟨14, _⟩ => ⟨S1x1024, .f32⟩
  | .local _ .vmem, ⟨15, _⟩ => ⟨S1x1024, .f32⟩
  | .local _ .vmem, ⟨16, _⟩ => ⟨S1x2048, .f32⟩
  | .local _ .vmem, ⟨17, _⟩ => ⟨S1x512x2048, .f32⟩
  | .local _ .vmem, ⟨18, _⟩ => ⟨S1x512x2048, .f32⟩
  | .local _ .vmem, ⟨19, _⟩ => ⟨S1x1x2x1024, .f32⟩
  | .local _ .vmem, ⟨20, _⟩ => ⟨S1x1x2x1024, .f32⟩
  | .local _ .vmem, ⟨21, _⟩ => ⟨S520x1024, .f32⟩
  | .local _ .vmem, ⟨22, _⟩ => ⟨S6x8x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 4, 6], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg2 : BitVec 32 := BitVec.ofNat 32 (i 2).val
  let v80 : Index := Scalar.indexCast arg2
  let c6_47 : Index := 6#32
  let c0_48 : Index := 0#32
  ![v80.toNat, 6, 0]
def k0_off2 (i : grid0.Coords) : Fin 3 → Nat :=
  let arg2 : BitVec 32 := BitVec.ofNat 32 (i 2).val
  let v11 : Index := Scalar.indexCast arg2
  let c6 : Index := 6#32
  let c0_7 : Index := 0#32
  ![v11.toNat, 6, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S8x2048x2048 : Shape := ⟨3, ![8, 2048, 2048]⟩
abbrev S1x2048x6144 : Shape := ⟨3, ![1, 2048, 6144]⟩
abbrev S1x3x6144 : Shape := ⟨3, ![1, 3, 6144]⟩
abbrev S1x6144 : Shape := ⟨2, ![1, 6144]⟩
abbrev S1x6144x2048 : Shape := ⟨3, ![1, 6144, 2048]⟩
abbrev S2048 : Shape := ⟨1, ![2048]⟩
abbrev S2048x6144 : Shape := ⟨2, ![2048, 6144]⟩
abbrev S8x2048x6144 : Shape := ⟨3, ![8, 2048, 6144]⟩
abbrev S_ : Shape := ⟨0, ![]⟩
abbrev S8x2x6144 : Shape := ⟨3, ![8, 2, 6144]⟩
abbrev S3x6144 : Shape := ⟨2, ![3, 6144]⟩
abbrev S6144 : Shape := ⟨1, ![6144]⟩
abbrev S8x2050x6144 : Shape := ⟨3, ![8, 2050, 6144]⟩
abbrev S1x1x6144 : Shape := ⟨3, ![1, 1, 6144]⟩
abbrev S6144x2048 : Shape := ⟨2, ![6144, 2048]⟩
abbrev S8x2048 : Shape := ⟨2, ![8, 2048]⟩
abbrev S8x2048x1 : Shape := ⟨3, ![8, 2048, 1]⟩
abbrev S1x1x2048 : Shape := ⟨3, ![1, 1, 2048]⟩
abbrev S8x4x512x6144 : Shape := ⟨4, ![8, 4, 512, 6144]⟩
abbrev S8x4x2x6144 : Shape := ⟨4, ![8, 4, 2, 6144]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .bf16⟩
  | .hbm, ⟨2, _⟩ => ⟨S1x2048x6144, .f32⟩
  | .hbm, ⟨3, _⟩ => ⟨S1x2048x6144, .f32⟩
  | .hbm, ⟨4, _⟩ => ⟨S1x3x6144, .f32⟩
  | .hbm, ⟨5, _⟩ => ⟨S1x6144, .f32⟩
  | .hbm, ⟨6, _⟩ => ⟨S1x6144x2048, .f32⟩
  | .hbm, ⟨7, _⟩ => ⟨S2048, .f32⟩
  | .hbm, ⟨8, _⟩ => ⟨S8x2048x2048, .f32⟩
  | .hbm, ⟨9, _⟩ => ⟨S2048x6144, .f32⟩
  | .hbm, ⟨10, _⟩ => ⟨S8x2048x6144, .f32⟩
  | .hbm, ⟨11, _⟩ => ⟨S_, .f32⟩
  | .hbm, ⟨12, _⟩ => ⟨S8x2x6144, .f32⟩
  | .hbm, ⟨13, _⟩ => ⟨S3x6144, .f32⟩
  | .hbm, ⟨14, _⟩ => ⟨S6144, .f32⟩
  | .hbm, ⟨15, _⟩ => ⟨S8x2050x6144, .f32⟩
  | .hbm, ⟨16, _⟩ => ⟨S1x6144, .f32⟩
  | .hbm, ⟨17, _⟩ => ⟨S6144, .f32⟩
  | .hbm, ⟨18, _⟩ => ⟨S8x2048x6144, .f32⟩
  | .hbm, ⟨19, _⟩ => ⟨S1x1x6144, .f32⟩
  | .hbm, ⟨20, _⟩ => ⟨S8x2048x6144, .f32⟩
  | .hbm, ⟨21, _⟩ => ⟨S8x2048x6144, .f32⟩
  | .hbm, ⟨22, _⟩ => ⟨S_, .f32⟩
  | .hbm, ⟨23, _⟩ => ⟨S8x2048x6144, .f32⟩
  | .hbm, ⟨24, _⟩ => ⟨S8x2048x6144, .f32⟩
  | .hbm, ⟨25, _⟩ => ⟨S1x6144, .f32⟩
  | .hbm, ⟨26, _⟩ => ⟨S6144, .f32⟩
  | .hbm, ⟨27, _⟩ => ⟨S8x2048x6144, .f32⟩
  | .hbm, ⟨28, _⟩ => ⟨S1x1x6144, .f32⟩
  | .hbm, ⟨29, _⟩ => ⟨S8x2048x6144, .f32⟩
  | .hbm, ⟨30, _⟩ => ⟨S8x2048x6144, .f32⟩
  | .hbm, ⟨31, _⟩ => ⟨S8x2048x6144, .f32⟩
  | .hbm, ⟨32, _⟩ => ⟨S1x6144, .f32⟩
  | .hbm, ⟨33, _⟩ => ⟨S6144, .f32⟩
  | .hbm, ⟨34, _⟩ => ⟨S8x2048x6144, .f32⟩
  | .hbm, ⟨35, _⟩ => ⟨S1x1x6144, .f32⟩
  | .hbm, ⟨36, _⟩ => ⟨S8x2048x6144, .f32⟩
  | .hbm, ⟨37, _⟩ => ⟨S8x2048x6144, .f32⟩
  | .hbm, ⟨38, _⟩ => ⟨S8x2048x6144, .f32⟩
  | .hbm, ⟨39, _⟩ => ⟨S1x1x6144, .f32⟩
  | .hbm, ⟨40, _⟩ => ⟨S8x2048x6144, .f32⟩
  | .hbm, ⟨41, _⟩ => ⟨S8x2048x6144, .f32⟩
  | .hbm, ⟨42, _⟩ => ⟨S8x2x6144, .f32⟩
  | .hbm, ⟨43, _⟩ => ⟨S8x2048x6144, .f32⟩
  | .hbm, ⟨44, _⟩ => ⟨S8x2048x6144, .f32⟩
  | .hbm, ⟨45, _⟩ => ⟨S_, .f32⟩
  | .hbm, ⟨46, _⟩ => ⟨S8x2048x6144, .f32⟩
  | .hbm, ⟨47, _⟩ => ⟨S8x2048x6144, .f32⟩
  | .hbm, ⟨48, _⟩ => ⟨S8x2048x6144, .f32⟩
  | .hbm, ⟨49, _⟩ => ⟨S_, .f32⟩
  | .hbm, ⟨50, _⟩ => ⟨S8x2048x6144, .f32⟩
  | .hbm, ⟨51, _⟩ => ⟨S8x2048x6144, .f32⟩
  | .hbm, ⟨52, _⟩ => ⟨S8x2048x6144, .f32⟩
  | .hbm, ⟨53, _⟩ => ⟨S_, .f32⟩
  | .hbm, ⟨54, _⟩ => ⟨S8x2048x6144, .f32⟩
  | .hbm, ⟨55, _⟩ => ⟨S8x2048x6144, .f32⟩
  | .hbm, ⟨56, _⟩ => ⟨S_, .f32⟩
  | .hbm, ⟨57, _⟩ => ⟨S8x2048x6144, .f32⟩
  | .hbm, ⟨58, _⟩ => ⟨S8x2048x6144, .f32⟩
  | .hbm, ⟨59, _⟩ => ⟨S8x2048x6144, .f32⟩
  | .hbm, ⟨60, _⟩ => ⟨S2048x6144, .f32⟩
  | .hbm, ⟨61, _⟩ => ⟨S8x2048x6144, .f32⟩
  | .hbm, ⟨62, _⟩ => ⟨S8x2048x6144, .f32⟩
  | .hbm, ⟨63, _⟩ => ⟨S6144x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x2048, .f32⟩
  | .hbm, ⟨78, _⟩ => ⟨S8x2048x2048, .f32⟩
  | .hbm, ⟨79, _⟩ => ⟨S1x1x2048, .f32⟩
  | .hbm, ⟨80, _⟩ => ⟨S8x2048x2048, .f32⟩
  | .hbm, ⟨81, _⟩ => ⟨S8x2048x2048, .f32⟩
  | .hbm, ⟨82, _⟩ => ⟨S8x4x512x6144, .f32⟩
  | .hbm, ⟨83, _⟩ => ⟨S8x4x2x6144, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel2.lean ====
abbrev S16384x2048 : Shape := ⟨2, ![16384, 2048]⟩
abbrev S16384x1024 : Shape := ⟨2, ![16384, 1024]⟩
abbrev S16384x9216 : Shape := ⟨2, ![16384, 9216]⟩
abbrev S1x1024x2048 : Shape := ⟨3, ![1, 1024, 2048]⟩
abbrev S1x2048x2048 : Shape := ⟨3, ![1, 2048, 2048]⟩
abbrev S1x2048 : Shape := ⟨2, ![1, 2048]⟩
abbrev S1024x2048 : Shape := ⟨2, ![1024, 2048]⟩
abbrev S2048x2048 : Shape := ⟨2, ![2048, 2048]⟩
abbrev S2048 : Shape := ⟨1, ![2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x9216, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S2048x2048, .f32⟩
  | .hbm, ⟨13, _⟩ => ⟨S2048x2048, .bf16⟩
  | .hbm, ⟨14, _⟩ => ⟨S2048, .f32⟩
  | .hbm, ⟨15, _⟩ => ⟨S1x2048, .f32⟩
  | .hbm, ⟨16, _⟩ => ⟨S16384x2048, .f32⟩
  | .hbm, ⟨17, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x2048 : Shape := ⟨2, ![16384, 2048]⟩
abbrev S16384x1024 : Shape := ⟨2, ![16384, 1024]⟩
abbrev S16384x9216 : Shape := ⟨2, ![16384, 9216]⟩
abbrev S1x1024x2048 : Shape := ⟨3, ![1, 1024, 2048]⟩
abbrev S1x2048x2048 : Shape := ⟨3, ![1, 2048, 2048]⟩
abbrev S1x2048 : Shape := ⟨2, ![1, 2048]⟩
abbrev S16384x4096 : Shape := ⟨2, ![16384, 4096]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x9216, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S16384x4096, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S1024x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S1024x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S2048x2048, .f32⟩
  | .hbm, ⟨35, _⟩ => ⟨S16384x2048, .f32⟩
  | .hbm, ⟨36, _⟩ => ⟨S16384x2048, .f32⟩
  | .hbm, ⟨37, _⟩ => ⟨S2048, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x2048, .f32⟩
  | .hbm, ⟨50, _⟩ => ⟨S16384x2048, .f32⟩
  | .hbm, ⟨51, _⟩ => ⟨S1x2048, .f32⟩
  | .hbm, ⟨52, _⟩ => ⟨S16384x2048, .f32⟩
  | .hbm, ⟨53, _⟩ => ⟨S16384x2048, .f32⟩
  | .hbm, ⟨54, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S1x2048x8728 : Shape := ⟨3, ![1, 2048, 8728]⟩
abbrev S2048x8728 : Shape := ⟨2, ![2048, 8728]⟩
abbrev S2048x1024 : Shape := ⟨2, ![2048, 1024]⟩
abbrev S2048x4096 : Shape := ⟨2, ![2048, 4096]⟩
abbrev S2048x512 : Shape := ⟨2, ![2048, 512]⟩
abbrev S2048x24 : Shape := ⟨2, ![2048, 24]⟩
abbrev S_ : Shape := ⟨0, ![]⟩
abbrev S2048x9216 : Shape := ⟨2, ![2048, 9216]⟩
abbrev S2048 : Shape := ⟨1, ![2048]⟩
abbrev S16384x9216 : Shape := ⟨2, ![16384, 9216]⟩
abbrev S65536x128 : Shape := ⟨2, ![65536, 128]⟩
abbrev S1024x2048 : Shape := ⟨2, ![1024, 2048]⟩
abbrev S1024x1024 : Shape := ⟨2, ![1024, 1024]⟩
abbrev S4096x128 : Shape := ⟨2, ![4096, 128]⟩
abbrev S1024 : Shape := ⟨1, ![1024]⟩
abbrev S1024x1 : Shape := ⟨2, ![1024, 1]⟩
abbrev S1024x128 : Shape := ⟨2, ![1024, 128]⟩

abbrev nBuf : Space → Nat
  | .hbm => 23
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x8728, .f32⟩
  | .hbm, ⟨3, _⟩ => ⟨S2048x8728, .f32⟩
  | .hbm, ⟨4, _⟩ => ⟨S2048x1024, .f32⟩
  | .hbm, ⟨5, _⟩ => ⟨S2048x1024, .f32⟩
  | .hbm, ⟨6, _⟩ => ⟨S2048x4096, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x24, .f32⟩
  | .hbm, ⟨12, _⟩ => ⟨S_, .i32⟩
  | .hbm, ⟨13, _⟩ => ⟨S_, .f32⟩
  | .hbm, ⟨14, _⟩ => ⟨S2048x512, .f32⟩
  | .hbm, ⟨15, _⟩ => ⟨S2048x9216, .f32⟩
  | .hbm, ⟨16, _⟩ => ⟨S2048x9216, .bf16⟩
  | .hbm, ⟨17, _⟩ => ⟨S2048, .f32⟩
  | .hbm, ⟨18, _⟩ => ⟨S1x2048, .f32⟩
  | .hbm, ⟨19, _⟩ => ⟨S16384x9216, .f32⟩
  | .hbm, ⟨20, _⟩ => ⟨S65536x128, .f32⟩
  | .hbm, ⟨21, _⟩ => ⟨S65536x128, .f32⟩
  | .hbm, ⟨22, _⟩ => ⟨S65536x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c7_i32_7 : BitVec 32 := 7#32
  let v11 : BitVec 1 := Scalar.cmpi .eq arg1 c7_i32_7
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c8_i32 : BitVec 32 := 8#32
  let v14 : BitVec 1 := Scalar.cmpi .eq arg1 c8_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x2048 : Shape := ⟨2, ![16384, 2048]⟩
abbrev S1x2048 : Shape := ⟨2, ![1, 2048]⟩
abbrev S1x2048x8728 : Shape := ⟨3, ![1, 2048, 8728]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x8728 : Shape := ⟨2, ![2048, 8728]⟩
abbrev S16384x8728 : Shape := ⟨2, ![16384, 8728]⟩
abbrev S16384x1024 : Shape := ⟨2, ![16384, 1024]⟩
abbrev S16384x512 : Shape := ⟨2, ![16384, 512]⟩
abbrev S16384x24 : Shape := ⟨2, ![16384, 24]⟩
abbrev S16384x4096 : Shape := ⟨2, ![16384, 4096]⟩
abbrev S16384x488 : Shape := ⟨2, ![16384, 488]⟩
abbrev S16384x9216 : Shape := ⟨2, ![16384, 9216]⟩
abbrev S65536x128 : Shape := ⟨2, ![65536, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x8728, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x8728, .f32⟩
  | .hbm, ⟨21, _⟩ => ⟨S16384x8728, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x24, .f32⟩
  | .hbm, ⟨29, _⟩ => ⟨S16384x4096, .f32⟩
  | .hbm, ⟨30, _⟩ => ⟨S_, .f32⟩
  | .hbm, ⟨31, _⟩ => ⟨S16384x488, .f32⟩
  | .hbm, ⟨32, _⟩ => ⟨S16384x9216, .f32⟩
  | .hbm, ⟨33, _⟩ => ⟨S65536x128, .f32⟩
  | .hbm, ⟨34, _⟩ => ⟨S65536x128, .f32⟩
  | .hbm, ⟨35, _⟩ => ⟨S65536x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Merge.Out.lean ====
/- What one grid point of the merge kernel leaves in its two output blocks, as the body's own payloads of the point's
   input blocks. Each output is one store of the whole block, and every load reads the whole of a block. -/
module

public import proofs.«01_k».proof.Proof.Gen.Kernel2Ideal.Value

@[expose] public section

set_option maxRecDepth 16384

noncomputable section

namespace Cert.Proof.Merge

open Cert.Kernel2Ideal Cert.Kernel2Ideal.Gen Cert.Kernel2Ideal.Value Idealize.ShloMosaic Idealize.ShloMosaic.TcCoe
open Idealize.SL.Sem

variable {F : FTy → Type} [FloatOps F]

theorem hz : (![0, 0] : Fin 2 → Nat) = fun _ => 0 := funext fun a => by fin_cases a <;> rfl

section
variable (c : Dev nD) (i : grid0.Coords)
  (a1 : Memref sig .tc .vmem S256x2048 .f32) (h1 : a1.IsWhole) (a2 : Memref sig .tc .vmem S256x1024 .f32) (h2 : a2.IsWhole)
  (a3 : Memref sig .tc .vmem S256x1024 .f32) (h3 : a3.IsWhole) (a4 : Memref sig .tc .vmem S256x2048 .f32) (h4 : a4.IsWhole)
  (a5 : Memref sig .tc .vmem S256x2048 .f32) (h5 : a5.IsWhole) (a6 : Memref sig .tc .vmem S1024x2048 .bf16) (h6 : a6.IsWhole)
  (a7 : Memref sig .tc .vmem S1024x2048 .bf16) (h7 : a7.IsWhole) (a8 : Memref sig .tc .vmem S2048x2048 .bf16) (h8 : a8.IsWhole)
  (a9 : Memref sig .tc .vmem S1x2048 .f32) (h9 : a9.IsWhole) (a10 : Memref sig .tc .vmem S256x2048 .f32) (h10 : a10.IsWhole)
  (a11 : Memref sig .tc .vmem S256x2048 .bf16) (h11 : a11.IsWhole)
  (x0 : Vec F S256x2048 .f32) (x1 : Vec F S256x1024 .f32) (x2 : Vec F S256x1024 .f32) (x3 : Vec F S256x2048 .f32)
  (x4 : Vec F S256x2048 .f32) (x5 : Vec F S1024x2048 .bf16) (x6 : Vec F S1024x2048 .bf16) (x7 : Vec F S2048x2048 .bf16)
  (x8 : Vec F S1x2048 .f32)

/-- The first output's block is the residual payload of the input blocks. -/
theorem out9_eq : out0_A_9 c i a1 h1 a2 h2 a3 h3 a4 h4 a5 h5 a6 h6 a7 h7 a8 h8 a9 h9 a10 h10 a11 h11 x0 x1 x2 x3 x4 x5 x6 x7 x8
    = k0_pay2 x3 x1 x5 x4 x2 x6 x0 x7 := by
  unfold out0_A_9
  rw [View.read_writes_junk_eq_canon]
  unfold kernelRun0_A
  dsimp only
  sl_unfold_words
  simp only [View.readAt_eq_ld, h1.read_unread, h2.read_unread, h3.read_unread, h4.read_unread, h5.read_unread,
    h6.read_unread, h7.read_unread, h8.read_unread]
  refine (View.canon_unit_zero hz _ _).trans ?_
  congr 1 <;> exact View.ld_unit_zero hz _ _

/-- The second output's block is the normalising payload of the first one and the norm's weights. -/
theorem out10_eq : out0_A_10 c i a1 h1 a2 h2 a3 h3 a4 h4 a5 h5 a6 h6 a7 h7 a8 h8 a9 h9 a10 h10 a11 h11 x0 x1 x2 x3 x4 x5 x6 x7 x8
    = k0_pay1 (k0_pay2 x3 x1 x5 x4 x2 x6 x0 x7) (k0_pay3 x8) (k0_pay4 x3 x1 x5 x4 x2 x6 x0 x7) k0_pay5 := by
  unfold out0_A_10
  rw [View.read_writes_junk_eq_canon]
  unfold kernelRun0_A
  dsimp only
  sl_unfold_words
  simp only [View.readAt_eq_ld, h1.read_unread, h2.read_unread, h3.read_unread, h4.read_unread, h5.read_unread,
    h6.read_unread, h7.read_unread, h8.read_unread, h9.read_unread]
  refine (View.canon_unit_zero hz _ _).trans ?_
  congr 1
  · congr 1 <;> exact View.ld_unit_zero hz _ _
  · exact congrArg k0_pay3 (View.ld_unit_zero hz _ _)
  · congr 1 <;> exact View.ld_unit_zero hz _ _

end

end Cert.Proof.Merge

end
-- ==== Proof.Merge.Spec.lean ====
/- The merge call's two results, entry by entry, on the extended reals: `x1` is the residual plus the projected, gated
   sum of the recurrence's and the attention's outputs; `h1` is `x1` divided by its row's root mean square and weighted. -/
module

public import Idealize.ShloMosaic.Lib.Pointwise

@[expose] public section

noncomputable section

namespace Cert.Proof.Merge

open Idealize.ShloMosaic

/-- One entry of the gated sum of the two projections: the gates are the logistic of two column bands of `z`. -/
def mix (y o : Fin 1024 → EReal) (g0 g1 : EReal) (wr wa : Fin 1024 → EReal) : EReal :=
  Ideal.logistic g0 * (∑ l : Fin 1024, y l * wr l) + Ideal.logistic g1 * (∑ l : Fin 1024, o l * wa l)

/-- One entry of the residual stream: `x` plus row `m` of mixed values times a column of the output projection. -/
def res (x : EReal) (m : Fin 2048 → EReal) (wo : Fin 2048 → EReal) : EReal := x + ∑ k : Fin 2048, m k * wo k

/-- One entry of the normalised stream, of a row `x` at column `j` with the norm's weight `w`. -/
def nrm (x : Fin 2048 → EReal) (w : EReal) (j : Fin 2048) : EReal :=
  x j * Ideal.rsqrt (Ideal.div (∑ k : Fin 2048, x k * x k) (Ideal.ofBits .f32 0x45000000#32) + Ideal.ofBits .f32 0x358637BD#32) * w

end Cert.Proof.Merge

end
-- ==== Proof.Merge.Pay.lean ====
/- The merge body's payloads at one index of a block, as the entries of Spec.lean. -/
module

public import proofs.«01_k».proof.Proof.Gen.Kernel2Ideal.Skeleton
public import proofs.«01_k».proof.Proof.Merge.Spec

@[expose] public section

set_option maxRecDepth 16384

noncomputable section

namespace Cert.Proof.Merge

open Cert.Kernel2Ideal Cert.Kernel2Ideal.Gen Idealize.ShloMosaic

variable (x0 : Vec Ideal S256x2048 .f32) (x1 : Vec Ideal S256x1024 .f32) (x2 : Vec Ideal S256x1024 .f32)
  (x3 : Vec Ideal S256x2048 .f32) (x4 : Vec Ideal S256x2048 .f32) (x5 : Vec Ideal S1024x2048 .bf16)
  (x6 : Vec Ideal S1024x2048 .bf16) (x7 : Vec Ideal S2048x2048 .bf16) (x8 : Vec Ideal S1x2048 .f32)

/-- The residual payload at row `p`, column `j`. -/
theorem pay2_apply (p : Fin 256) (j : Fin 2048) : k0_pay2 (F := Ideal) x3 x1 x5 x4 x2 x6 x0 x7 (ix2 p j)
    = res (x0 (ix2 p j)) (fun k => mix (fun l => x1 (ix2 p l)) (fun l => x2 (ix2 p l)) (x3 (ix2 p k)) (x4 (ix2 p k))
        (fun l => x5 (ix2 l k)) (fun l => x6 (ix2 l k))) (fun k => x7 (ix2 k j)) := by
  unfold res mix
  pointwise! [Gen.k0_pay2]

/-- The normalising payload at row `p`, column `j`, over any residual block. -/
theorem pay1_apply (p : Fin 256) (j : Fin 2048) :
    k0_pay1 (F := Ideal) (k0_pay2 x3 x1 x5 x4 x2 x6 x0 x7) (k0_pay3 x8) (k0_pay4 x3 x1 x5 x4 x2 x6 x0 x7) k0_pay5 (ix2 p j)
    = nrm (fun k => k0_pay2 (F := Ideal) x3 x1 x5 x4 x2 x6 x0 x7 (ix2 p k)) (x8 (ix2 0 j)) j := by
  unfold Gen.k0_pay4
  generalize k0_pay2 (F := Ideal) x3 x1 x5 x4 x2 x6 x0 x7 = X
  unfold nrm
  pointwise! [Gen.k0_pay1, Gen.k0_pay3, Gen.k0_pay5]

end Cert.Proof.Merge

end
-- ==== Proof.Merge.Ref.lean ====
/- The merge reference's two results at one index, as the entries of Spec.lean. -/
module

public import proofs.«01_k».proof.Proof.Gen.Reference2Ideal.Run
public import proofs.«01_k».proof.Proof.Merge.Spec

@[expose] public section

set_option maxRecDepth 16384

noncomputable section

namespace Cert.Proof.Merge

open Cert.Reference2Ideal Cert.Reference2Ideal.Gen Cert.Reference2Ideal.Value Idealize.ShloMosaic Idealize.ShloMosaic.TcCoe
open Idealize.SL.Sem

/-- The residual stream as one array of the eight arguments. -/
def X1 (x : FVec Ideal S16384x2048 .f32) (y o : FVec Ideal S16384x1024 .f32) (z : FVec Ideal S16384x9216 .f32)
    (wr wa : FVec Ideal S1x1024x2048 .f32) (wo : FVec Ideal S1x2048x2048 .f32) : FVec Ideal S16384x2048 .f32 := fun i =>
  res (x i) (fun k => mix (fun l => y (ix2 (i 0) l)) (fun l => o (ix2 (i 0) l))
      (z (ix2 (i 0) ⟨2048 + k.val, by omega⟩)) (z (ix2 (i 0) ⟨4096 + k.val, by omega⟩))
      (fun l => wr (ix3 0 l k)) (fun l => wa (ix3 0 l k))) (fun k => wo (ix3 0 k (i 1)))

/-- The normalised stream as one array of the eight arguments. -/
def H1 (x : FVec Ideal S16384x2048 .f32) (y o : FVec Ideal S16384x1024 .f32) (z : FVec Ideal S16384x9216 .f32)
    (wr wa : FVec Ideal S1x1024x2048 .f32) (wo : FVec Ideal S1x2048x2048 .f32) (nf : FVec Ideal S1x2048 .f32) :
    FVec Ideal S16384x2048 .bf16 := fun i =>
  nrm (fun k => X1 x y o z wr wa wo (ix2 (i 0) k)) (nf (ix2 0 (i 1))) (i 1)

variable (x : FVec Ideal S16384x2048 .f32) (y o : FVec Ideal S16384x1024 .f32) (z : FVec Ideal S16384x9216 .f32)
    (wr wa : FVec Ideal S1x1024x2048 .f32) (wo : FVec Ideal S1x2048x2048 .f32) (nf : FVec Ideal S1x2048 .f32)

/-- The operations' term for one gated projection: the logistic of a band of `z` by columns `2048·b …`, times `y` projected. -/
abbrev TG (y : FVec Ideal S16384x1024 .f32) (z : FVec Ideal S16384x9216 .f32) (w : FVec Ideal S1x1024x2048 .f32)
    (b : Nat) (hb : S16384x4096.Slices ![0, b] S16384x2048) : FVec Ideal S16384x2048 .f32 :=
  mulf (Host.divf (broadcastInDim S16384x2048 ![] bcast_S_S16384x2048 (constant S_ .f32 0x3F800000#32))
      (addf (broadcastInDim S16384x2048 ![] bcast_S_S16384x2048 (constant S_ .f32 0x3F800000#32))
        (Host.exp (Host.negf (extractStridedSlice S16384x2048 ![0, b]
          (extractStridedSlice S16384x4096 ![0, 2048] z slices_S16384x9216_S16384x4096_0_2048) hb)))))
    (Host.dotGeneral dot_S16384x1024_S1024x2048_S16384x2048_1_0_0_1_n_n none y
      (shapeCast S1024x2048 w shapeCasts_S1x1024x2048_S1024x2048))

theorem TG0_apply (i : Fin 16384) (k : Fin 2048) : TG y z wr 0 slices_S16384x4096_S16384x2048_0_0 (ix2 i k)
    = Ideal.logistic (z (ix2 i ⟨2048 + k.val, by omega⟩)) * ∑ l : Fin 1024, y (ix2 i l) * wr (ix3 0 l k) := by
  unfold Ideal.logistic
  pointwise!

theorem TG1_apply (i : Fin 16384) (k : Fin 2048) : TG o z wa 2048 slices_S16384x4096_S16384x2048_0_2048 (ix2 i k)
    = Ideal.logistic (z (ix2 i ⟨4096 + k.val, by omega⟩)) * ∑ l : Fin 1024, o (ix2 i l) * wa (ix3 0 l k) := by
  unfold Ideal.logistic
  pointwise!

/-- The operations' term for the residual stream. -/
abbrev T1 : FVec Ideal S16384x2048 .f32 :=
  addf x (Host.dotGeneral dot_S16384x2048_S2048x2048_S16384x2048_1_0_0_1_n_n none
    (addf (TG y z wr 0 slices_S16384x4096_S16384x2048_0_0) (TG o z wa 2048 slices_S16384x4096_S16384x2048_0_2048))
    (shapeCast S2048x2048 wo shapeCasts_S1x2048x2048_S2048x2048))

/-- A projected sum added to `x`, at an index. -/
theorem T1_of (A B : FVec Ideal S16384x2048 .f32) (i : Fin 16384) (j : Fin 2048) :
    addf x (Host.dotGeneral dot_S16384x2048_S2048x2048_S16384x2048_1_0_0_1_n_n none (addf A B)
      (shapeCast S2048x2048 wo shapeCasts_S1x2048x2048_S2048x2048)) (ix2 i j)
    = x (ix2 i j) + ∑ k : Fin 2048, (A (ix2 i k) + B (ix2 i k)) * wo (ix3 0 k j) := by
  pointwise!

/-- It is `X1`. -/
theorem T1_eq : T1 x y o z wr wa wo = X1 x y o z wr wa wo := by
  funext i
  idx_vars i
  rw [T1, T1_of]
  simp only [TG0_apply, TG1_apply]
  rfl

/-- The operations' term for the normalised stream, of the residual stream's array and the norm's weights. -/
abbrev T2 (X : FVec Ideal S16384x2048 .f32) : FVec Ideal S16384x2048 .bf16 :=
  truncf .bf16 (mulf (mulf X (broadcastInDim S16384x2048 ![0, 1] bcast_S16384x1_S16384x2048_0_1
      (Host.rsqrt (addf (Host.divf (broadcastInDim S16384x1 ![0] bcast_S16384_S16384x1_0
          (Host.reduceAdd (mulf X X) (constant S_ .f32 0x00000000#32) reducesTo_S16384x2048_S16384_d1 h_S_))
          (broadcastInDim S16384x1 ![] bcast_S_S16384x1 (constant S_ .f32 0x45000000#32)))
        (broadcastInDim S16384x1 ![] bcast_S_S16384x1 (constant S_ .f32 0x358637BD#32))))))
    (broadcastInDim S16384x2048 ![0, 1] bcast_S1x2048_S16384x2048_0_1
      (broadcastInDim S1x2048 ![1] bcast_S2048_S1x2048_1 (shapeCast S2048 nf shapeCasts_S1x2048_S2048)))) bitsLt_bf16_f32

/-- At an index it is the normalised entry of the row. -/
theorem T2_apply (X : FVec Ideal S16384x2048 .f32) (i : S16384x2048.Idx) :
    T2 nf X i = nrm (fun k => X (ix2 (i 0) k)) (nf (ix2 0 (i 1))) (i 1) := by
  idx_vars i
  unfold nrm
  pointwise!

variable (m : (ℓ : Loc nD τ sig) → Buf (Elt Ideal) ℓ) (ρ : Dev nD → PrngReg)

/-- The reference runs, its first result `X1` and its second `H1` of its arguments, the arguments unchanged. -/
theorem ref_run : θ_run defs (onTc (τ := τ) (main (F := Ideal))) ⟨m, fun _ => 0, ρ⟩ fun r => ∀ c : Dev nD,
      r.2.mem ((c.tc : Thread nD τ).loc main_v24) = X1 (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_v39) = H1 (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (T1_eq _ _ _ _ _ _ _),
      (h c).2.1.trans ((show res_main_v39 m c = T2 (m ((c.tc : Thread nD τ).loc main_arg7)) (T1 _ _ _ _ _ _ _) from rfl).trans
        (by rw [T1_eq]; funext i; rw [T2_apply]; rfl)), (h c).2.2⟩) (run m ρ)

end Cert.Proof.Merge

end
-- ==== Proof.Merge.Value.lean ====
/- The merge kernel's two result arrays as functions of its arguments: each grid point writes 256 rows of them, every
   row by one point, and the arrays are those the reference computes (Ref.lean `X1`, `H1`). -/
module

public import proofs.«01_k».proof.Proof.Merge.Out
public import proofs.«01_k».proof.Proof.Merge.Pay
public import proofs.«01_k».proof.Proof.Merge.Ref

@[expose] public section

set_option maxRecDepth 16384

noncomputable section

namespace Cert.Proof.Merge

open Cert.Kernel2Ideal Cert.Kernel2Ideal.Gen Cert.Kernel2Ideal.Value Idealize.ShloMosaic Idealize.ShloMosaic.TcCoe
open Idealize.SL.Sem

variable (m : (ℓ : Loc nD τ sig) → Buf (Elt Ideal) ℓ) (ρ : Dev nD → PrngReg)

/-! ## Where each window's block lies -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 1 :=
  (by decide +kernel : ∀ t : Fin grid0.N, _)
theorem idx4 : ∀ t : Fin cfg0.N, win0_4.index t (0 : Fin 2) = t.val ∧ win0_4.index t (1 : Fin 2) = 2 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

theorem t_lt (t : Fin cfg0.N) : t.val < 64 := t.isLt

/-- Row `p` of point `t`'s block of rows, in the array. -/
def row (t : Fin cfg0.N) (p : Fin 256) : Fin 16384 := ⟨t.val * 256 + p.val, by have := t_lt t; omega⟩

/-- Input window 0's block: rows `row t ·` of the residual input. -/
theorem blk0 (c : Dev nD) (t : Fin cfg0.N) (p : Fin 256) (j : Fin 2048) :
    iblk m c 0 t (ix2 p j) = V m c main_arg0 (ix2 (row t p) j) := by
  obtain ⟨e0, e1⟩ := idx0 t
  show V m c main_arg0 (((cfg0.win 0).blk t).view.emb (ix2 p j)) = _
  congr 1
  funext a; apply Fin.ext
  match a with
  | ⟨0, _⟩ => show win0_0.index t (0 : Fin 2) * 256 + 1 * p.val = t.val * 256 + p.val; omega
  | ⟨1, _⟩ => show win0_0.index t (1 : Fin 2) * 2048 + 1 * j.val = j.val; omega

/-- Input window 1's block: those rows of the recurrence's output. -/
theorem blk1 (c : Dev nD) (t : Fin cfg0.N) (p : Fin 256) (j : Fin 1024) :
    iblk m c 1 t (ix2 p j) = V m c main_arg1 (ix2 (row t p) j) := by
  obtain ⟨e0, e1⟩ := idx1 t
  show V m c main_arg1 (((cfg0.win 1).blk t).view.emb (ix2 p j)) = _
  congr 1
  funext a; apply Fin.ext
  match a with
  | ⟨0, _⟩ => show win0_1.index t (0 : Fin 2) * 256 + 1 * p.val = t.val * 256 + p.val; omega
  | ⟨1, _⟩ => show win0_1.index t (1 : Fin 2) * 1024 + 1 * j.val = j.val; omega

/-- Input window 2's block: those rows of the attention's output. -/
theorem blk2 (c : Dev nD) (t : Fin cfg0.N) (p : Fin 256) (j : Fin 1024) :
    iblk m c 2 t (ix2 p j) = V m c main_arg2 (ix2 (row t p) j) := by
  obtain ⟨e0, e1⟩ := idx2 t
  show V m c main_arg2 (((cfg0.win 2).blk t).view.emb (ix2 p j)) = _
  congr 1
  funext a; apply Fin.ext
  match a with
  | ⟨0, _⟩ => show win0_2.index t (0 : Fin 2) * 256 + 1 * p.val = t.val * 256 + p.val; omega
  | ⟨1, _⟩ => show win0_2.index t (1 : Fin 2) * 1024 + 1 * j.val = j.val; omega

/-- Input window 3's buffer: those rows of `z`, columns 2048 to 4095. -/
theorem blk3 (c : Dev nD) (t : Fin cfg0.N) (p : Fin 256) (j : Fin 2048) :
    X0_3 m c t (ix2 p j) = V m c main_arg3 (ix2 (row t p) ⟨2048 + j.val, by omega⟩) := by
  obtain ⟨e0, e1⟩ := idx3 t
  unfold X0_3 Pipeline.Window.fill
  rw [dif_pos (moved0_3 t _)]
  show V m c main_arg3 (((cfg0.win 3).blk t).view.emb _) = _
  congr 1
  funext a; apply Fin.ext
  match a with
  | ⟨0, _⟩ => show win0_3.index t (0 : Fin 2) * 256 + 1 * p.val = t.val * 256 + p.val; omega
  | ⟨1, _⟩ => show win0_3.index t (1 : Fin 2) * 2048 + 1 * j.val = 2048 + j.val; omega

/-- Input window 4's buffer: those rows of `z`, columns 4096 to 6143. -/
theorem blk4 (c : Dev nD) (t : Fin cfg0.N) (p : Fin 256) (j : Fin 2048) :
    X0_4 m c t (ix2 p j) = V m c main_arg3 (ix2 (row t p) ⟨4096 + j.val, by omega⟩) := by
  obtain ⟨e0, e1⟩ := idx4 t
  unfold X0_4 Pipeline.Window.fill
  rw [dif_pos (moved0_4 t _)]
  show V m c main_arg3 (((cfg0.win 4).blk t).view.emb _) = _
  congr 1
  funext a; apply Fin.ext
  match a with
  | ⟨0, _⟩ => show win0_4.index t (0 : Fin 2) * 256 + 1 * p.val = t.val * 256 + p.val; omega
  | ⟨1, _⟩ => show win0_4.index t (1 : Fin 2) * 2048 + 1 * j.val = 4096 + j.val; omega

/-- The weight windows' blocks are the whole weights. -/
theorem blk5 (c : Dev nD) (t : Fin cfg0.N) (p : Fin 1024) (j : Fin 2048) :
    iblk m c 5 t (ix2 p j) = V m c main_v1 (ix2 p j) := by
  obtain ⟨e0, e1⟩ := idx5 t
  show V m c main_v1 (((cfg0.win 5).blk t).view.emb (ix2 p j)) = _
  congr 1
  funext a; apply Fin.ext
  match a with
  | ⟨0, _⟩ => show win0_5.index t (0 : Fin 2) * 1024 + 1 * p.val = p.val; omega
  | ⟨1, _⟩ => show win0_5.index t (1 : Fin 2) * 2048 + 1 * j.val = j.val; omega

theorem blk6 (c : Dev nD) (t : Fin cfg0.N) (p : Fin 1024) (j : Fin 2048) :
    iblk m c 6 t (ix2 p j) = V m c main_v3 (ix2 p j) := by
  obtain ⟨e0, e1⟩ := idx6 t
  show V m c main_v3 (((cfg0.win 6).blk t).view.emb (ix2 p j)) = _
  congr 1
  funext a; apply Fin.ext
  match a with
  | ⟨0, _⟩ => show win0_6.index t (0 : Fin 2) * 1024 + 1 * p.val = p.val; omega
  | ⟨1, _⟩ => show win0_6.index t (1 : Fin 2) * 2048 + 1 * j.val = j.val; omega

theorem blk7 (c : Dev nD) (t : Fin cfg0.N) (p : Fin 2048) (j : Fin 2048) :
    iblk m c 7 t (ix2 p j) = V m c main_v5 (ix2 p j) := by
  obtain ⟨e0, e1⟩ := idx7 t
  show V m c main_v5 (((cfg0.win 7).blk t).view.emb (ix2 p j)) = _
  congr 1
  funext a; apply Fin.ext
  match a with
  | ⟨0, _⟩ => show win0_7.index t (0 : Fin 2) * 2048 + 1 * p.val = p.val; omega
  | ⟨1, _⟩ => show win0_7.index t (1 : Fin 2) * 2048 + 1 * j.val = j.val; omega

theorem blk8 (c : Dev nD) (t : Fin cfg0.N) (j : Fin 2048) :
    iblk m c 8 t (ix2 0 j) = V m c main_v7 (ix2 0 j) := by
  obtain ⟨e0, e1⟩ := idx8 t
  show V m c main_v7 (((cfg0.win 8).blk t).view.emb (ix2 0 j)) = _
  congr 1
  funext a; apply Fin.ext
  match a with
  | ⟨0, _⟩ => show win0_8.index t (0 : Fin 2) * 1 + 1 * 0 = 0; omega
  | ⟨1, _⟩ => show win0_8.index t (1 : Fin 2) * 2048 + 1 * j.val = j.val; omega

/-! ## What the host prepared -/

theorem cast1 (w : FVec Ideal S1x1024x2048 .f32) (p : Fin 1024) (j : Fin 2048) :
    truncf (F := Ideal) (φ := .f32) .bf16 (shapeCast S1024x2048 w shapeCasts_S1x1024x2048_S1024x2048) bitsLt_bf16_f32 (ix2 p j)
      = w (ix3 0 p j) := by pointwise

theorem cast2 (w : FVec Ideal S1x2048x2048 .f32) (p : Fin 2048) (j : Fin 2048) :
    truncf (F := Ideal) (φ := .f32) .bf16 (shapeCast S2048x2048 w shapeCasts_S1x2048x2048_S2048x2048) bitsLt_bf16_f32 (ix2 p j)
      = w (ix3 0 p j) := by pointwise

theorem cast3 (w : FVec Ideal S1x2048 .f32) (j : Fin 2048) :
    shapeCast S1x2048 (shapeCast S2048 w shapeCasts_S1x2048_S2048) shapeCasts_S2048_S1x2048 (ix2 0 j) = w (ix2 0 j) := by pointwise

theorem V1 (c : Dev nD) (p : Fin 1024) (j : Fin 2048) :
    V m c main_v1 (ix2 p j) = (m ((c : Thread nD τ).loc main_arg4) : FVec Ideal S1x1024x2048 .f32) (ix3 0 p j) := by
  have h : V m c main_v1 = (truncf (F := Ideal) (φ := .f32) .bf16 (shapeCast S1024x2048
      (m ((c : Thread nD τ).loc main_arg4) : FVec Ideal S1x1024x2048 .f32) shapeCasts_S1x1024x2048_S1024x2048) bitsLt_bf16_f32) := by
    unfold_abbrev_sides
    after_results <;> rfl
  rw [h]; exact cast1 _ p j

theorem V3 (c : Dev nD) (p : Fin 1024) (j : Fin 2048) :
    V m c main_v3 (ix2 p j) = (m ((c : Thread nD τ).loc main_arg5) : FVec Ideal S1x1024x2048 .f32) (ix3 0 p j) := by
  have h : V m c main_v3 = (truncf (F := Ideal) (φ := .f32) .bf16 (shapeCast S1024x2048
      (m ((c : Thread nD τ).loc main_arg5) : FVec Ideal S1x1024x2048 .f32) shapeCasts_S1x1024x2048_S1024x2048) bitsLt_bf16_f32) := by
    unfold_abbrev_sides
    after_results <;> rfl
  rw [h]; exact cast1 _ p j

theorem V5 (c : Dev nD) (p : Fin 2048) (j : Fin 2048) :
    V m c main_v5 (ix2 p j) = (m ((c : Thread nD τ).loc main_arg6) : FVec Ideal S1x2048x2048 .f32) (ix3 0 p j) := by
  have h : V m c main_v5 = (truncf (F := Ideal) (φ := .f32) .bf16 (shapeCast S2048x2048
      (m ((c : Thread nD τ).loc main_arg6) : FVec Ideal S1x2048x2048 .f32) shapeCasts_S1x2048x2048_S2048x2048) bitsLt_bf16_f32) := by
    unfold_abbrev_sides
    after_results <;> rfl
  rw [h]; exact cast2 _ p j

theorem V7 (c : Dev nD) (j : Fin 2048) :
    V m c main_v7 (ix2 0 j) = (m ((c : Thread nD τ).loc main_arg7) : FVec Ideal S1x2048 .f32) (ix2 0 j) := by
  have h : V m c main_v7 = (shapeCast S1x2048 (shapeCast S2048
      (m ((c : Thread nD τ).loc main_arg7) : FVec Ideal S1x2048 .f32) shapeCasts_S1x2048_S2048) shapeCasts_S2048_S1x2048) := by
    unfold_abbrev_sides
    after_results <;> rfl
  rw [h]; exact cast3 _ j

/-! ## The two result arrays -/

/-- The first result, of the launch contents. -/
abbrev val1 (c : Dev nD) : FVec Ideal S16384x2048 .f32 :=
  X1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The second result, of the launch contents. -/
abbrev val2 (c : Dev nD) : FVec Ideal S16384x2048 .bf16 :=
  H1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The residual payload of blocks that are rows `row t ·` of arrays, and whole weights, is those rows of `X1`. -/
theorem pay2_rows (t : Fin cfg0.N) (x : FVec Ideal S16384x2048 .f32) (y o : FVec Ideal S16384x1024 .f32)
    (z : FVec Ideal S16384x9216 .f32) (wr wa : FVec Ideal S1x1024x2048 .f32) (wo : FVec Ideal S1x2048x2048 .f32)
    (x0 : Vec Ideal S256x2048 .f32) (x1 : Vec Ideal S256x1024 .f32) (x2 : Vec Ideal S256x1024 .f32)
    (x3 : Vec Ideal S256x2048 .f32) (x4 : Vec Ideal S256x2048 .f32) (x5 : Vec Ideal S1024x2048 .bf16)
    (x6 : Vec Ideal S1024x2048 .bf16) (x7 : Vec Ideal S2048x2048 .bf16)
    (h0 : ∀ p j, x0 (ix2 p j) = x (ix2 (row t p) j)) (h1 : ∀ p j, x1 (ix2 p j) = y (ix2 (row t p) j))
    (h2 : ∀ p j, x2 (ix2 p j) = o (ix2 (row t p) j))
    (h3 : ∀ p (j : Fin 2048), x3 (ix2 p j) = z (ix2 (row t p) ⟨2048 + j.val, by omega⟩))
    (h4 : ∀ p (j : Fin 2048), x4 (ix2 p j) = z (ix2 (row t p) ⟨4096 + j.val, by omega⟩))
    (h5 : ∀ p j, x5 (ix2 p j) = wr (ix3 0 p j)) (h6 : ∀ p j, x6 (ix2 p j) = wa (ix3 0 p j))
    (h7 : ∀ p j, x7 (ix2 p j) = wo (ix3 0 p j)) (p : Fin 256) (j : Fin 2048) :
    k0_pay2 (F := Ideal) x3 x1 x5 x4 x2 x6 x0 x7 (ix2 p j) = X1 x y o z wr wa wo (ix2 (row t p) j) := by
  rw [pay2_apply]
  simp only [h0, h1, h2, h3, h4, h5, h6, h7]
  rfl

/-- The residual payload of point `t`'s blocks is the point's rows of the first result. -/
theorem pay2_blk (c : Dev nD) (t : Fin cfg0.N) (p : Fin 256) (j : Fin 2048) :
    k0_pay2 (F := Ideal) (X0_3 m c t) (iblk m c 1 t) (iblk m c 5 t) (X0_4 m c t) (iblk m c 2 t) (iblk m c 6 t) (iblk m c 0 t)
      (iblk m c 7 t) (ix2 p j) = val1 m c (ix2 (row t p) j) :=
  pay2_rows t _ _ _ _ _ _ _ _ _ _ _ _ _ _ _
    (fun p j => (blk0 m c t p j).trans (congrFun (V_main_arg0 m c) _)) (fun p j => (blk1 m c t p j).trans (congrFun (V_main_arg1 m c) _))
    (fun p j => (blk2 m c t p j).trans (congrFun (V_main_arg2 m c) _)) (fun p j => (blk3 m c t p j).trans (congrFun (V_main_arg3 m c) _))
    (fun p j => (blk4 m c t p j).trans (congrFun (V_main_arg3 m c) _)) (fun p j => (blk5 m c t p j).trans (V1 m c p j))
    (fun p j => (blk6 m c t p j).trans (V3 m c p j)) (fun p j => (blk7 m c t p j).trans (V5 m c p j)) p j

theorem emb9 (t : Fin cfg0.N) (p : Fin 256) (j : Fin 2048) : ((cfg0.win 9).blk t).view.emb (ix2 p j) = ix2 (row t p) j := by
  obtain ⟨e0, e1⟩ := idx9 t
  funext a; apply Fin.ext
  match a with
  | ⟨0, _⟩ => show win0_9.index t (0 : Fin 2) * 256 + 1 * p.val = t.val * 256 + p.val; omega
  | ⟨1, _⟩ => show win0_9.index t (1 : Fin 2) * 2048 + 1 * j.val = j.val; omega

theorem emb10 (t : Fin cfg0.N) (p : Fin 256) (j : Fin 2048) : ((cfg0.win 10).blk t).view.emb (ix2 p j) = ix2 (row t p) j := by
  obtain ⟨e0, e1⟩ := idx10 t
  funext a; apply Fin.ext
  match a with
  | ⟨0, _⟩ => show win0_10.index t (0 : Fin 2) * 256 + 1 * p.val = t.val * 256 + p.val; omega
  | ⟨1, _⟩ => show win0_10.index t (1 : Fin 2) * 2048 + 1 * j.val = j.val; omega

/-- What point `t` writes back to the first result is the point's block of `val1`. -/
theorem flushed9_eq (c : Dev nD) (t : Fin cfg0.N) :
    (dats m 0 c).flushed 9 t = ((cfg0.win 9).blk t).view.read (Elt Ideal) (val1 m c) := by
  rw [flushed9_A, out9_eq]
  funext (i : S256x2048.Idx)
  idx_vars i
  show k0_pay2 (F := Ideal) (X0_3 m c t) (iblk m c 1 t) (iblk m c 5 t) (X0_4 m c t) (iblk m c 2 t) (iblk m c 6 t)
    (iblk m c 0 t) (iblk m c 7 t) (ix2 i0 i1) = val1 m c (((cfg0.win 9).blk t).view.emb (ix2 i0 i1))
  rw [emb9, pay2_blk]

/-- What point `t` writes back to the second result is the point's block of `val2`. -/
theorem flushed10_eq (c : Dev nD) (t : Fin cfg0.N) :
    (dats m 0 c).flushed 10 t = ((cfg0.win 10).blk t).view.read (Elt Ideal) (val2 m c) := by
  rw [flushed10_A, out10_eq]
  funext (i : S256x2048.Idx)
  idx_vars i
  show k0_pay1 (F := Ideal) (k0_pay2 (X0_3 m c t) (iblk m c 1 t) (iblk m c 5 t) (X0_4 m c t) (iblk m c 2 t) (iblk m c 6 t)
    (iblk m c 0 t) (iblk m c 7 t)) (k0_pay3 (iblk m c 8 t)) (k0_pay4 (X0_3 m c t) (iblk m c 1 t) (iblk m c 5 t) (X0_4 m c t)
    (iblk m c 2 t) (iblk m c 6 t) (iblk m c 0 t) (iblk m c 7 t)) k0_pay5 (ix2 i0 i1)
    = val2 m c (((cfg0.win 10).blk t).view.emb (ix2 i0 i1))
  rw [emb10, pay1_apply, (blk8 m c t i1).trans (V7 m c i1), funext (fun k => pay2_blk m c t i0 k)]
  rfl

/-- Every index of the array lies in the block of the point that holds its row. -/
theorem covered9 (i : S16384x2048.Idx) : ∃ t : Fin cfg0.N, (cfg0.win 9).flush t = true ∧ i ∈ ((cfg0.win 9).blk t).view.set := by
  idx_vars i
  refine ⟨⟨i0.val / 256, by show _ < 64; omega⟩, flush0_9 _, ?_⟩
  have h := ((cfg0.win 9).blk (⟨i0.val / 256, by show _ < 64; omega⟩ : Fin cfg0.N)).view.emb_mem_set (ix2 (⟨i0.val % 256, by omega⟩ : Fin 256) i1)
  rw [emb9] at h
  have e : row (⟨i0.val / 256, by show _ < 64; omega⟩ : Fin cfg0.N) (⟨i0.val % 256, by omega⟩ : Fin 256) = i0 :=
    Fin.ext (by show i0.val / 256 * 256 + i0.val % 256 = i0.val; omega)
  rwa [e] at h

theorem covered10 (i : S16384x2048.Idx) : ∃ t : Fin cfg0.N, (cfg0.win 10).flush t = true ∧ i ∈ ((cfg0.win 10).blk t).view.set := by
  idx_vars i
  refine ⟨⟨i0.val / 256, by show _ < 64; omega⟩, flush0_10 _, ?_⟩
  have h := ((cfg0.win 10).blk (⟨i0.val / 256, by show _ < 64; omega⟩ : Fin cfg0.N)).view.emb_mem_set (ix2 (⟨i0.val % 256, by omega⟩ : Fin 256) i1)
  rw [emb10] at h
  have e : row (⟨i0.val / 256, by show _ < 64; omega⟩ : Fin cfg0.N) (⟨i0.val % 256, by omega⟩ : Fin 256) = i0 :=
    Fin.ext (by show i0.val / 256 * 256 + i0.val % 256 = i0.val; omega)
  rwa [e] at h

theorem final9 (c : Dev nD) : (dats m 0 c).arrAt 9 cfg0.N = val1 m c :=
  (dats m 0 c).arrAt_eq_of_cover 9 (val1 m c) (fun t _ => flushed9_eq m c t) covered9

theorem final10 (c : Dev nD) : (dats m 0 c).arrAt 10 cfg0.N = val2 m c :=
  (dats m 0 c).arrAt_eq_of_cover 10 (val2 m c) (fun t _ => flushed10_eq m c t) covered10

end Cert.Proof.Merge

end
-- ==== Proof.Merge.Claim.lean ====
/- The merge call's claim: from equal arguments, on the extended reals, the kernel and the reference end with equal
   residual and normalised streams. -/
module

public import proofs.«01_k».proof.Defs
public import proofs.«01_k».proof.Proof.Merge.Value

@[expose] public section

noncomputable section

namespace Cert.Proof.Merge

open Idealize.ShloMosaic Idealize.ShloMosaic.TcCoe Idealize.SL.Sem

theorem algebraic : Cert.algebraic_Kernel2Ideal_Reference2Ideal := by
  intro m g m' g' _ hargs
  refine ⟨fun c => val1 m c, fun c => val2 m c, ?_, ?_⟩
  · exact (θ_run Cert.Kernel2Ideal.defs _ _).mono (fun r h c => ⟨(h c).1.trans (final9 m c), (h c).2.1.trans (final10 m c), (h c).2.2⟩)
      (Cert.Kernel2Ideal.Value.run_blocks m g)
  · refine (θ_run Cert.Reference2Ideal.defs _ _).mono (fun r h c => ⟨(h c).1.trans ?_, (h c).2.1.trans ?_, (h c).2.2⟩)
      (ref_run m' g')
    · obtain ⟨h0, h1, h2, h3, h4, h5, h6, h7⟩ := hargs c
      rw [h0, h1, h2, h3, h4, h5, h6]
    · obtain ⟨h0, h1, h2, h3, h4, h5, h6, h7⟩ := hargs c
      rw [h0, h1, h2, h3, h4, h5, h6, h7]

end Cert.Proof.Merge

end
-- ==== Proof.Ffn.Body.lean ====
module

public import proofs.«01_k».proof.Proof.Gen.KernelIdeal.Frame
public import proofs.«01_k».proof.Proof.Gen.KernelIdeal.Skeleton
public import Idealize.ShloMosaic.Lib.VecWindow
public import Idealize.ShloMosaic.Lib.WritesUnit

@[expose] public section

set_option maxRecDepth 16384

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its block's six column groups. -/
abbrev first (i : grid0.Coords) : Prop := (Scalar.cmpi .ne (Scalar.extui (Scalar.cmpi .eq (BitVec.ofNat 32 (i 2).val) 0#32)) 0#32) = 1#1
/-- The point belongs to the first row block of its sequence. -/
abbrev start (i : grid0.Coords) : Prop := k0_cond2 i = 1#1
/-- The point is the last of its block's six column groups. -/
abbrev last (i : grid0.Coords) : Prop := (Scalar.cmpi .ne (Scalar.extui (Scalar.cmpi .eq (BitVec.ofNat 32 (i 2).val) 5#32)) 0#32) = 1#1

/-- The two rows the carry holds for the point's column group. -/
abbrev carried (i : grid0.Coords) (C : Vec F S6x8x1024 .f32) : Vec F S1x2x1024 .f32 :=
  View.ld (Val := Elt F) C (Rect.unit (s := S6x8x1024) (k0_off2 i) S1x2x1024.size (k0_off2_inb i))

/-- The two rows before the block's own: the given history at a sequence's first block, the carried rows after it. -/
def hist (i : grid0.Coords) (x1 : Vec F S1x2x1024 .f32) (C : Vec F S6x8x1024 .f32) : Vec F S1x2x1024 .f32 :=
  if start i then k0_pay4 x1 else carried i C

/-- The stores into the history-and-gate scratch, last first. -/
abbrev pieces (p : Vec F S1x2x1024 .f32) (x2 : Vec F S1x512x2048 .bf16) (x3 : Vec F S2048x1024 .bf16) : List (View.Piece (Elt F) S520x1024 .f32) :=
  [⟨Rect.unit (s := S520x1024) ![8, 0] S512x1024.size inb_S520x1024_S512x1024_8_0, k0_pay8 x2 x3⟩,
   ⟨Rect.unit (s := S520x1024) ![6, 0] S2x1024.size inb_S520x1024_S2x1024_6_0, k0_pay7 p⟩]

/-- The history-and-gate scratch as those stores leave it. -/
def gcat (p : Vec F S1x2x1024 .f32) (x2 : Vec F S1x512x2048 .bf16) (x3 : Vec F S2048x1024 .bf16) : Vec F S520x1024 .f32 :=
  View.canon (pieces p x2 x3)

/-- The block's last two gate rows. -/
def tail (p : Vec F S1x2x1024 .f32) (x2 : Vec F S1x512x2048 .bf16) (x3 : Vec F S2048x1024 .bf16) : Vec F S2x1024 .f32 :=
  View.ld (Val := Elt F) (gcat p x2 x3) (Rect.unit (s := S520x1024) ![518, 0] S2x1024.size inb_S520x1024_S2x1024_518_0)

/-- A convolution weight's row. -/
abbrev w0 (x6 : Vec F S3x1024 .f32) : Vec F S1x1024 .f32 := View.ld (Val := Elt F) x6 (Rect.unit (s := S3x1024) ![0, 0] S1x1024.size inb_S3x1024_S1x1024_0_0)
abbrev w1 (x6 : Vec F S3x1024 .f32) : Vec F S1x1024 .f32 := View.ld (Val := Elt F) x6 (Rect.unit (s := S3x1024) ![1, 0] S1x1024.size inb_S3x1024_S1x1024_1_0)
abbrev w2 (x6 : Vec F S3x1024 .f32) : Vec F S1x1024 .f32 := View.ld (Val := Elt F) x6 (Rect.unit (s := S3x1024) ![2, 0] S1x1024.size inb_S3x1024_S1x1024_2_0)

/-- What the point adds to the block `y`, the block so far. -/
def step (p : Vec F S1x2x1024 .f32) (x2 : Vec F S1x512x2048 .bf16) (x3 x4 : Vec F S2048x1024 .bf16) (x5 : Vec F S1024x2048 .bf16)
    (x6 : Vec F S3x1024 .f32) (x7 : Vec F S1x1024 .f32) (y : Vec F S1x512x2048 .f32) : Vec F S1x512x2048 .f32 :=
  let v27 := k0_pay9 x2 x3 x7 (w2 x6)
  let v29 := k0_pay10 (w0 x6)
  let v30 : Vec F S512x1024 .f32 := View.ld (Val := Elt F) (gcat p x2 x3) (Rect.unit (s := S520x1024) ![6, 0] S512x1024.size inb_S520x1024_S512x1024_6_0)
  let v36 : Vec F S512x1024 .f32 := View.ld (Val := Elt F) (gcat p x2 x3) (Rect.unit (s := S520x1024) ![7, 0] S512x1024.size inb_S520x1024_S512x1024_7_0)
  k0_pay1 (k0_pay11 v27 v29 v30 (w1 x6) v36) (k0_pay14 (k0_pay5 x2) x4) (k0_pay15 y) (k0_pay16 v27 v29 v30 (w1 x6) v36) x5

/-- The block at the point's end. -/
def yNew (i : grid0.Coords) (x0 : Vec F S1x512x2048 .f32) (p : Vec F S1x2x1024 .f32) (x2 : Vec F S1x512x2048 .bf16) (x3 x4 : Vec F S2048x1024 .bf16) (x5 : Vec F S1024x2048 .bf16)
    (x6 : Vec F S3x1024 .f32) (x7 : Vec F S1x1024 .f32) (x8 : Vec F S1x2048 .f32) (y : Vec F S1x512x2048 .f32) : Vec F S1x512x2048 .f32 :=
  if last i then k0_pay2 x0 (step p x2 x3 x4 x5 x6 x7 (if first i then k0_pay3 else y)) x8
  else step p x2 x3 x4 x5 x6 x7 (if first i then k0_pay3 else y)

/-- A load through the newest store's rectangle reads its payload. -/
theorem ld_read_writes {κ : Kind} {sp : Space} {s : Shape} {e : EltTy} (v : View sig κ sp s e) (f : v.ty.Contents (Elt F)) (r : Rect s) (w : r.shape.Idx → Elt F e) (L : List (View.Piece (Elt F) s e)) :
    View.ld (Val := Elt F) (v.read (Elt F) (v.writes (Elt F) f (⟨r, w⟩ :: L))) r = w :=
  funext fun x => View.read_writes_cons_emb v f r w L x

/-- The rows just stored are what the carry then holds for the point's group. -/
theorem carried_store (i : grid0.Coords) (v : View sig .tc .vmem S6x8x1024 .f32) (f : v.ty.Contents (Elt F)) (w : Vec F S1x2x1024 .f32) (L : List (View.Piece (Elt F) S6x8x1024 .f32)) :
    carried i (v.read (Elt F) (v.writes (Elt F) f (⟨Rect.unit (s := S6x8x1024) (k0_off2 i) S1x2x1024.size (k0_off2_inb i), w⟩ :: L))) = w :=
  ld_read_writes v f (Rect.unit (s := S6x8x1024) (k0_off2 i) S1x2x1024.size (k0_off2_inb i)) w L

/-- A store for the point's group leaves the others' rows. -/
theorem other_store (i : grid0.Coords) (off : Fin 3 → ℕ) (hoff : off 0 = (i 2).val) (inb) (v : View sig .tc .vmem S6x8x1024 .f32) (f : v.ty.Contents (Elt F)) (w : Vec F S1x2x1024 .f32) (L : List (View.Piece (Elt F) S6x8x1024 .f32))
    (j : S6x8x1024.Idx) (hj : (j 0).val ≠ (i 2).val) :
    v.read (Elt F) (v.writes (Elt F) f (⟨Rect.unit (s := S6x8x1024) off S1x2x1024.size inb, w⟩ :: L)) j = v.read (Elt F) (v.writes (Elt F) f L) j :=
  View.read_writes_cons_unit_of_not_mem v f inb w L j rfl (0 : Fin 3) (by
    show (j 0).val < off 0 ∨ off 0 + 1 ≤ (j 0).val
    omega)

theorem off1_zero (i : grid0.Coords) : k0_off1 i 0 = (i 2).val := by
  show (BitVec.ofNat 32 (i 2).val).toNat = _
  have : (i 2).val < 6 := (i 2).isLt
  simp only [BitVec.toNat_ofNat]; omega
theorem off2_zero (i : grid0.Coords) : k0_off2 i 0 = (i 2).val := off1_zero i

set_option maxHeartbeats 8000000 in
theorem run (c : Dev nD) (i : grid0.Coords) (arg3 : Memref sig .tc .vmem S1x512x2048 .f32) (harg3 : arg3.IsWhole) (arg4 : Memref sig .tc .vmem S1x2x1024 .f32) (harg4 : arg4.IsWhole) (arg5 : Memref sig .tc .vmem S1x512x2048 .bf16) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S3x1024 .f32) (harg9 : arg9.IsWhole) (arg10 : Memref sig .tc .vmem S1x1024 .f32) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S1x1x2x1024 .f32) (harg13 : arg13.IsWhole) (arg14 : Memref sig .tc .vmem S520x1024 .f32) (harg14 : arg14.IsWhole) (arg15 : Memref sig .tc .vmem S6x8x1024 .f32) (harg15 : arg15.IsWhole)
    (x0 : Vec F S1x512x2048 .f32) (x1 : Vec F S1x2x1024 .f32) (x2 : Vec F S1x512x2048 .bf16) (x3 : Vec F S2048x1024 .bf16) (x4 : Vec F S2048x1024 .bf16) (x5 : Vec F S1024x2048 .bf16) (x6 : Vec F S3x1024 .f32) (x7 : Vec F S1x1024 .f32) (x8 : Vec F S1x2048 .f32)
    (y : Vec F S1x512x2048 .f32) (C : Vec F S6x8x1024 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare y ∗ (∃ d, owns (c : Thread nD τ) arg13 fullShare d) ∗ (∃ d, owns (c : Thread nD τ) arg14 fullShare d) ∗ owns (c : Thread nD τ) arg15 fullShare C
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (yNew i x0 (hist i x1 C) x2 x3 x4 x5 x6 x7 x8 y) ∗ owns (c : Thread nD τ) arg13 fullShare (k0_pay13 (tail (hist i x1 C) x2 x3)) ∗ (∃ d, owns (c : Thread nD τ) arg14 fullShare d)
                ∗ (∃ C', ⌜carried i C' = k0_pay12 (tail (hist i x1 C) x2 x3) ∧ ∀ j : S6x8x1024.Idx, (j 0).val ≠ (i 2).val → C' j = C j⌝ ∗ owns (c : Thread nD τ) arg15 fullShare C')) -∗ K ⟨⟩))
          ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15) K := by
    by_cases hc0 : first i <;> by_cases hc1 : start i <;> by_cases hc2 : last i
    all_goals
      simp only [cc0_ffn_eq_skeleton]; unfold cc0_ffn_skel
      simp only [k0_part1_eq_skeleton, k0_part2_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%fs1, %hfs1, HS1⟩, Hk⟩
      sl_exec (disch := first | sl_exact hc0 | sl_exact hc1 | sl_exact hc2)
      sl_step
      iapply Hk
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      isplitl [H7]
      · iexists _; isplitr; · ipureintro; exact hf7
        iexact H7
      isplitl [H8]
      · iexists _; isplitr; · ipureintro; exact hf8
        iexact H8
      have e0 := (View.readAt_full arg3.view f0 inb_S1x512x2048_S1x512x2048_0_0_0).trans hf0
      have e1 := (View.readAt_full arg4.view f1 inb_S1x2x1024_S1x2x1024_0_0_0).trans hf1
      have e2 := (View.readAt_full arg5.view f2 inb_S1x512x2048_S1x512x2048_0_0_0).trans hf2
      have e3 := (View.readAt_full arg6.view f3 inb_S2048x1024_S2048x1024_0_0).trans hf3
      have e4 := (View.readAt_full arg7.view f4 inb_S2048x1024_S2048x1024_0_0).trans hf4
      have e5 := (View.readAt_full arg8.view f5 inb_S1024x2048_S1024x2048_0_0).trans hf5
      have e7 := (View.readAt_full arg10.view f7 inb_S1x1024_S1x1024_0_0).trans hf7
      have e8 := (View.readAt_full arg11.view f8 inb_S1x2048_S1x2048_0_0).trans hf8
      have e9 := (View.readAt_full arg12.view f9 inb_S1x512x2048_S1x512x2048_0_0_0).trans hf9
      isplitl [H9]
      · iexists _; isplitr; swap; · iexact H9
        ipureintro
        refine (View.read_writes_full _ _ _ _ _).trans ?_
        sl_unfold_words
        simp only [yNew, hist]
        first | simp only [if_pos hc1] | simp only [if_neg hc1]
        first | simp only [if_pos hc0] | simp only [if_neg hc0]
        first | simp only [if_pos hc2] | simp only [if_neg hc2]
        simp only [View.readAt_eq_ld, hf0, hf1, hf2, hf3, hf4, hf5, hf6, hf7, hf8, hf9, hfs1] at e0 e1 e2 e3 e4 e5 e7 e8 e9 ⊢
        simp only [View.readCov_cons_toLoadRect, e0, e1, e2, e3, e4, e5, e7, e8, e9]
        simp only [View.readCov_eq_canon', e0, e1, e2, e3, e4, e5, e7, e8, e9]
        simp only [step, tail, gcat]
        try rfl
      isplitl [H10]
      · iexists _; isplitr; swap; · iexact H10
        ipureintro
        refine (View.read_writes_full _ _ _ _ _).trans ?_
        sl_unfold_words
        simp only [yNew, hist]
        first | simp only [if_pos hc1] | simp only [if_neg hc1]
        simp only [View.readAt_eq_ld, hf0, hf1, hf2, hf3, hf4, hf5, hf6, hf7, hf8, hf9, hfs1] at e0 e1 e2 e3 e4 e5 e7 e8 e9 ⊢
        simp only [View.readCov_cons_toLoadRect, e0, e1, e2, e3, e4, e5, e7, e8, e9]
        simp only [View.readCov_eq_canon', e0, e1, e2, e3, e4, e5, e7, e8, e9]
        simp only [step, tail, gcat]
        try rfl
      isplitl [HS0]
      · iexists _, _; isplitr; swap; · iexact HS0
        ipureintro; rfl
      iexists _; isplitr; swap
      · iexists _; isplitr; swap; · iexact HS1
        ipureintro; rfl
      ipureintro
      constructor
      · refine (carried_store _ _ _ _ _).trans ?_
        sl_unfold_words
        simp only [yNew, hist]
        first | simp only [if_pos hc1] | simp only [if_neg hc1]
        simp only [View.readAt_eq_ld, hf0, hf1, hf2, hf3, hf4, hf5, hf6, hf7, hf8, hf9, hfs1] at e0 e1 e2 e3 e4 e5 e7 e8 e9 ⊢
        simp only [View.readCov_cons_toLoadRect, e0, e1, e2, e3, e4, e5, e7, e8, e9]
        simp only [View.readCov_eq_canon', e0, e1, e2, e3, e4, e5, e7, e8, e9]
        rfl
      · intro j hj
        refine (other_store i _ (off2_zero i) _ _ _ _ _ _ hj).trans ?_
        sl_unfold_words
        first
        | exact (other_store i (k0_off1 i) (off1_zero i) (k0_off1_inb i hc1) _ _ _ _ _ hj).trans (congrFun hfs1 j)
        | exact congrFun hfs1 j

end Cert.Proof.Ffn

end
-- ==== Proof.Ffn.Frame.lean ====
module

public import proofs.«01_k».proof.Proof.Ffn.Body
public import proofs.«01_k».proof.Proof.Gen.KernelIdeal.Points
public import Idealize.ShloMosaic.Lib.Claim
public import Idealize.ShloMosaic.Lib.WordCmp
public import Idealize.ShloMosaic.Lib.Pipeline.FrameBody

@[expose] public section

set_option maxRecDepth 16384

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem lt_N (t : Fin cfg0.N) : t.val < 192 := Nat.lt_of_lt_of_eq t.isLt N_0

/-- A point's sequence, row block and column group. -/
theorem coords_b : ∀ t : Fin cfg0.N, (grid0.coords t 0).val = t.val / 24 % 8 :=
  (fun t => Pipeline.Grid.coords_val t 0 (by decide) rfl : ∀ t : Fin grid0.N, (grid0.coords t 0).val = t.val / 24 % 8)
theorem coords_t : ∀ t : Fin cfg0.N, (grid0.coords t 1).val = t.val / 6 % 4 :=
  (fun t => Pipeline.Grid.coords_val t 1 (by decide) rfl : ∀ t : Fin grid0.N, (grid0.coords t 1).val = t.val / 6 % 4)
theorem coords_f : ∀ t : Fin cfg0.N, (grid0.coords t 2).val = t.val / 1 % 6 :=
  (fun t => Pipeline.Grid.coords_val t 2 (by decide) rfl : ∀ t : Fin grid0.N, (grid0.coords t 2).val = t.val / 1 % 6)

theorem first_iff (t : Fin cfg0.N) : first (grid0.coords t) ↔ t.val % 6 = 0 := by
  have ht := lt_N t
  simp only [first, coords_f t]
  word_cmp
theorem start_iff (t : Fin cfg0.N) : start (grid0.coords t) ↔ t.val / 6 % 4 = 0 := by
  have ht := lt_N t
  simp only [start, k0_cond2, coords_t t]
  word_cmp
theorem last_iff (t : Fin cfg0.N) : last (grid0.coords t) ↔ t.val % 6 = 5 := by
  have ht := lt_N t
  simp only [last, coords_f t]
  word_cmp

/-! ## The carry -/

/-- The scratch's rows from 8 on are the block's gate rows. -/
theorem gcat_gate (p : Vec F S1x2x1024 .f32) (x2 : Vec F S1x512x2048 .bf16) (x3 : Vec F S2048x1024 .bf16) (z : S512x1024.Idx) :
    gcat p x2 x3 ((Rect.unit (s := S520x1024) ![8, 0] S512x1024.size inb_S520x1024_S512x1024_8_0).emb z) = k0_pay8 x2 x3 z := by
  unfold gcat
  exact View.canon_cons_emb _ _ _ _

/-- A pair of the block's last rows as rows of the gate. -/
abbrev lastRow (y : S2x1024.Idx) : S512x1024.Idx := fun a => match a with
  | ⟨0, _⟩ => (⟨510 + (y 0).val, by have : (y 0).val < 2 := (y 0).isLt; omega⟩ : Fin 512)
  | ⟨1, _⟩ => (y 1 : Fin 1024)

theorem tail_apply (p : Vec F S1x2x1024 .f32) (x2 : Vec F S1x512x2048 .bf16) (x3 : Vec F S2048x1024 .bf16) (y : S2x1024.Idx) : tail p x2 x3 y = k0_pay8 x2 x3 (lastRow y) := by
  refine Eq.trans (congrArg (gcat p x2 x3) ?_) (gcat_gate p x2 x3 (lastRow y))
  funext a
  apply Fin.ext
  match a with
  | ⟨0, _⟩ => show 518 + 1 * (y 0).val = 8 + 1 * (510 + (y 0).val); omega
  | ⟨1, _⟩ => rfl

/-- The block's last two gate rows do not depend on the rows before the block. -/
theorem tail_indep (p p' : Vec F S1x2x1024 .f32) (x2 : Vec F S1x512x2048 .bf16) (x3 : Vec F S2048x1024 .bf16) : tail p x2 x3 = tail p' x2 x3 :=
  funext fun y => (tail_apply p x2 x3 y).trans (tail_apply p' x2 x3 y).symm

/-- Two points of one column group read the same rows of the carry. -/
theorem carried_congr {i i' : grid0.Coords} (h : (i 2).val = (i' 2).val) (C : Vec F S6x8x1024 .f32) : carried i C = carried i' C := by
  funext x
  refine congrArg C (funext fun a => Fin.ext ?_)
  have e : k0_off2 i = k0_off2 i' := by
    unfold k0_off2; rw [h]
  show k0_off2 i a + 1 * (x a).val = k0_off2 i' a + 1 * (x a).val
  rw [e]

/-- A change in another group's rows is not seen. -/
theorem carried_other {i i' : grid0.Coords} (h : (i' 2).val ≠ (i 2).val) {C C' : Vec F S6x8x1024 .f32}
    (hC : ∀ j : S6x8x1024.Idx, (j 0).val ≠ (i 2).val → C' j = C j) : carried i' C' = carried i' C := by
  funext x
  refine hC _ ?_
  show k0_off2 i' 0 + 1 * (x 0).val ≠ (i 2).val
  rw [off2_zero]
  have : (x 0).val < 1 := (x 0).isLt
  omega

/-- The last two gate rows of a point's row block, on its columns. -/
def tailAt (c : Dev nD) (t : Fin cfg0.N) : Vec F S2x1024 .f32 := tail (k0_pay4 (iblk m c 1 t)) (iblk m c 2 t) (iblk m c 3 t)

/-- The two gate rows before a point's row block, on its columns. -/
def histAt (c : Dev nD) (t : Fin cfg0.N) : Vec F S1x2x1024 .f32 :=
  if start (grid0.coords t) then k0_pay4 (iblk m c 1 t) else k0_pay12 (tailAt m c ⟨t.val - 6, Nat.lt_of_le_of_lt (Nat.sub_le _ _) t.isLt⟩)

/-- The carry before point `n` holds the last rows of each of the six points before. -/
def Carry (c : Dev nD) (n : ℕ) (C : Vec F S6x8x1024 .f32) : Prop :=
  ∀ t : Fin cfg0.N, t.val < n → n ≤ t.val + 6 → carried (grid0.coords t) C = k0_pay12 (tailAt m c t)

theorem hist_eq (c : Dev nD) (t : Fin cfg0.N) (C : Vec F S6x8x1024 .f32) (h : Carry m c t.val C) : hist (grid0.coords t) (iblk m c 1 t) C = histAt m c t := by
  unfold hist histAt
  by_cases hs : start (grid0.coords t)
  · rw [if_pos hs, if_pos hs]
  · rw [if_neg hs, if_neg hs]
    have h6 : 6 ≤ t.val := by
      have := (start_iff t).not.mp hs
      omega
    rw [← h ⟨t.val - 6, Nat.lt_of_le_of_lt (Nat.sub_le _ _) t.isLt⟩ (by show t.val - 6 < t.val; omega) (by show t.val ≤ t.val - 6 + 6; omega)]
    refine carried_congr ?_ C
    rw [coords_f, coords_f]
    show t.val / 1 % 6 = (t.val - 6) / 1 % 6
    omega

theorem carry_succ (c : Dev nD) (t : Fin cfg0.N) (C C' : Vec F S6x8x1024 .f32) (h : Carry m c t.val C)
    (h1 : carried (grid0.coords t) C' = k0_pay12 (tailAt m c t)) (h2 : ∀ j : S6x8x1024.Idx, (j 0).val ≠ (grid0.coords t 2).val → C' j = C j) :
    Carry m c (t.val + 1) C' := by
  intro t' hlt hle
  by_cases e : t' = t
  · subst e; exact h1
  · have hne : t'.val ≠ t.val := fun he => e (Fin.ext he)
    rw [carried_other (i := grid0.coords t) (i' := grid0.coords t') (by rw [coords_f, coords_f]; omega) h2]
    exact h t' (by omega) (by omega)

/-! ## What the points leave -/

/-- The block of the result a point leaves, over what it finds. -/
def pointAt (c : Dev nD) (t : Fin cfg0.N) (y : Vec F S1x512x2048 .f32) : Vec F S1x512x2048 .f32 :=
  yNew (grid0.coords t) (iblk m c 0 t) (histAt m c t) (iblk m c 2 t) (iblk m c 3 t) (iblk m c 4 t) (iblk m c 5 t) (iblk m c 6 t) (iblk m c 7 t) (iblk m c 8 t) y

/-- The block of the result after each point. -/
def yAt (c : Dev nD) : (n : ℕ) → n < cfg0.N → Vec F S1x512x2048 .f32
  | 0, h => pointAt m c ⟨0, h⟩ k0_pay3
  | n + 1, h => pointAt m c ⟨n + 1, h⟩ (yAt c n (Nat.lt_of_succ_lt h))

/-- At a block's first column group the result so far is not read. -/
theorem pointAt_first (c : Dev nD) (t : Fin cfg0.N) (h : t.val % 6 = 0) (y y' : Vec F S1x512x2048 .f32) : pointAt m c t y = pointAt m c t y' := by
  unfold pointAt yNew
  rw [if_pos ((first_iff t).mpr h), if_pos ((first_iff t).mpr h)]

theorem yAt_succ (c : Dev nD) (t : Fin cfg0.N) (h : ¬t.val % 6 = 0) :
    yAt m c t.val t.isLt = pointAt m c t (yAt m c (t.val - 1) (Nat.lt_of_le_of_lt (Nat.sub_le _ _) t.isLt)) := by
  obtain ⟨n, hn⟩ := t
  match n, hn, h with
  | 0, _, h => exact absurd rfl h
  | n + 1, hn, h => rfl

theorem yAt_first (c : Dev nD) (t : Fin cfg0.N) (h : t.val % 6 = 0) (y : Vec F S1x512x2048 .f32) : yAt m c t.val t.isLt = pointAt m c t y := by
  obtain ⟨n, hn⟩ := t
  match n, hn, h with
  | 0, _, h => exact pointAt_first m c _ h _ _
  | n + 1, hn, h => exact pointAt_first m c _ h _ _

/-! ## The proof data -/

abbrev scM0_0 : Memref sig .tc .vmem S520x1024 .f32 := Memref.whole cc0_scratch0
abbrev scM0_1 : Memref sig .tc .vmem S6x8x1024 .f32 := Memref.whole cc0_scratch1

/-- What the launch hands the first point, one buffer at a time. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA
  rw [scopedRest0_eq]
  simp only [scM0_0, scM0_1, owns_whole]
  try rfl

/-- What holds between points: the carry is `Carry`. -/
def PhiS (c : Dev nD) (n : ℕ) : sProp 𝕄 :=
  iprop(iprop((∃ d, owns (c : Thread nD τ) scM0_0 fullShare d) ∗ (∃ C, ⌜Carry m c n C⌝ ∗ owns (c : Thread nD τ) scM0_1 fullShare C)) ∗ (∃ r, prngReg c r))

/-- The proof data of the call: inputs keep their blocks, the results hold `yAt` and the stored tail. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yAt m c t.val t.isLt
    | ⟨10, _⟩ => k0_pay13 (tailAt m c t)
  Φ t := PhiS m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = yAt m c t.val t.isLt := by dsimp only [dats]
theorem after0_10 (c : Dev nD) (t : Fin cfg0.N) : (dats m 0 c).after 10 t = k0_pay13 (tailAt m c t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

/-- Past a block's first column group the result's buffer holds what the point before left. -/
theorem before0_9 (c : Dev nD) (t : Fin cfg0.N) (h0 : ¬t.val % 6 = 0) (d) :
    (dats m 0 c).before 9 t d = yAt m c (t.val - 1) (Nat.lt_of_le_of_lt (Nat.sub_le _ _) t.isLt) := by
  have hN := lt_N t
  rw [Dat.before_out_kept _ 9 rfl t (by omega) (Bool.eq_false_iff.mpr fun h => by have := (flush0_9 _).mp h; dsimp only at this; omega)
    (fun _ => rfl) (fun _ _ => rfl)]
  dsimp only [dats]

/-- The result's block after a point, from what its buffer held. -/
theorem yAt_eq (c : Dev nD) (t : Fin cfg0.N) (d) : yAt m c t.val t.isLt = pointAt m c t ((dats m 0 c).before 9 t d) := by
  by_cases h : t.val % 6 = 0
  · exact yAt_first m c t h _
  · rw [before0_9 m c t h d]; exact yAt_succ m c t h

/-! ## The body obligation -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = PhiS m c t.val from rfl, show (dats m 0 c).Φ t.succ = PhiS m c (t.val + 1) from rfl,
    after0_0, after0_1, after0_2, after0_3, after0_4, after0_5, after0_6, after0_7, after0_8, after0_9, after0_10]
  unfold PhiS
  iintro ⟨⟨⟨HS0, ⟨%C, %hC, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hy := yAt_eq m c t d9
  have hh := hist_eq m c t C hC
  have ht : tail (histAt m c t) (iblk m c 2 t) (iblk m c 3 t) = tailAt m c t := tail_indep _ _ _ _
  iapply (run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) C Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  rw [hh, ht]
  iintro ⟨H0, H1, H2, H3, H4, H5, H6, H7, H8, H9, H10, HS0, ⟨%C', %hC', HS1⟩⟩
  isplitl [HS0 HS1 Hg]
  · isplitl [HS0 HS1]
    · isplitl [HS0]; · iexact HS0
      iexists C'
      isplitr
      · ipureintro; exact carry_succ m c t C C' hC hC'.1 hC'.2
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [hy]; iexact H9
  iexact H10

theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : (Pipeline.ΦA spec0 c : sProp 𝕄) ⊢ (dats m 0 c).Φ 0 := by
  rw [PhiA0_eq, show (dats m 0 c).Φ 0 = PhiS m c 0 from rfl]
  unfold PhiS
  iintro ⟨⟨HS0, ⟨%C, HS1⟩⟩, Hg⟩
  isplitl [HS0 HS1]
  · isplitl [HS0]; · iexact HS0
    iexists C
    isplitr
    · ipureintro; exact fun t h => absurd h (Nat.not_lt_zero _)
    iexact HS1
  iexact Hg

theorem hout (c : Dev nD) : (dats m 0 c).Φ (Fin.last _) ⊢ (Pipeline.ΦA spec0 c : sProp 𝕄) := by
  rw [PhiA0_eq, show (dats m 0 c).Φ (Fin.last _) = PhiS m c cfg0.N from rfl]
  unfold PhiS
  iintro ⟨⟨HS0, ⟨%C, %hC, HS1⟩⟩, Hg⟩
  isplitl [HS0 HS1]
  · isplitl [HS0]; · iexact HS0
    iexists C; iexact HS1
  iexact Hg

set_option backward.isDefEq.respectTransparency.types false in
/-- The run ends, every array of the call as the proof data says and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The run ends with the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Proof.Ffn

end
-- ==== Proof.Ffn.Spec.lean ====
/- The feed-forward call's two results, entry by entry, on the extended reals: the gate is the input projected, `U` its
   causal convolution of width three along a sequence, and the result is the normalised sum of the residual and the gated
   hidden row projected back. -/
module

public import proofs.«01_k».proof.Proof.Merge.Spec
public import Idealize.ShloMosaic.Lib.Pointwise

@[expose] public section

noncomputable section

namespace Cert.Proof.Ffn

open Idealize.ShloMosaic Cert.Proof.Merge

/-- A convolved entry: the bias and the weighted gate entries of the row, of two rows before and of one row before. -/
def conv (b w0 w1 w2 g2 g1 g0 : EReal) : EReal := b + w2 * g0 + w0 * g2 + w1 * g1

/-- The tanh approximation of the Gaussian error linear unit. -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * u * u)))))

abbrev Sx : Shape := ⟨3, ![8, 2048, 2048]⟩
abbrev Sw : Shape := ⟨3, ![1, 2048, 6144]⟩
abbrev Sc : Shape := ⟨3, ![1, 3, 6144]⟩
abbrev Sb : Shape := ⟨2, ![1, 6144]⟩
abbrev Sd : Shape := ⟨3, ![1, 6144, 2048]⟩
abbrev Sn : Shape := ⟨1, ![2048]⟩
abbrev Sf : Shape := ⟨4, ![8, 4, 2, 6144]⟩

variable (x : FVec Ideal Sx .f32) (h : FVec Ideal Sx .bf16) (wg wu : FVec Ideal Sw .f32) (cw : FVec Ideal Sc .f32)
  (cb : FVec Ideal Sb .f32) (wd : FVec Ideal Sd .f32) (nf : FVec Ideal Sn .f32)

/-- Row `r` of sequence `b`, projected onto column `f`. -/
def proj (w : FVec Ideal Sw .f32) (b : Fin 8) (r : Fin 2048) (f : Fin 6144) : EReal := ∑ k : Fin 2048, h (ix3 b r k) * w (ix3 0 k f)

/-- The gate `d` rows before row `r`, zero before the sequence's start. -/
def past (d : ℕ) (b : Fin 8) (r : Fin 2048) (f : Fin 6144) : EReal :=
  if d ≤ r.val then proj h wg b ⟨r.val - d, by omega⟩ f else 0

/-- The convolved gate. -/
def U (b : Fin 8) (r : Fin 2048) (f : Fin 6144) : EReal :=
  conv (cb (ix2 0 f)) (cw (ix3 0 0 f)) (cw (ix3 0 1 f)) (cw (ix3 0 2 f)) (past h wg 2 b r f) (past h wg 1 b r f) (proj h wg b r f)

/-- The gated hidden entry. -/
def hid (b : Fin 8) (r : Fin 2048) (f : Fin 6144) : EReal := gelu (U h wg cw cb b r f) * proj h wu b r f

/-- The residual stream with the hidden row projected back. -/
def out (b : Fin 8) (r j : Fin 2048) : EReal := x (ix3 b r j) + ∑ f : Fin 6144, hid h wg wu cw cb b r f * wd (ix3 0 f j)

/-- The first result as an array of the eight arguments. -/
def Y : FVec Ideal Sx .f32 := fun i => nrm (fun k => out x h wg wu cw cb wd (i 0) (i 1) k) (nf (ix1 (i 2))) (i 2)

/-- The second result: the last two gate rows of each 512 rows. -/
def FC : FVec Ideal Sf .f32 := fun i =>
  proj h wg (i 0) ⟨(i 1).val * 512 + (510 + (i 2).val), by
    have h1 : (i 1).val < 4 := (i 1).isLt
    have h2 : (i 2).val < 2 := (i 2).isLt
    omega⟩ (i 3)

end Cert.Proof.Ffn

end
-- ==== Proof.Ffn.Pay.lean ====
/- The feed-forward body's values at one index of a block, as the entries of Spec.lean. -/
module

public import proofs.«01_k».proof.Proof.Ffn.Frame
public import proofs.«01_k».proof.Proof.Ffn.Spec

@[expose] public section

set_option maxRecDepth 16384

noncomputable section

namespace Cert.Proof.Ffn

open Cert.KernelIdeal Cert.KernelIdeal.Gen Idealize.ShloMosaic Cert.Proof.Merge

/-- The gate's payload. -/
theorem pay8_apply (x2 : Vec Ideal S1x512x2048 .bf16) (x3 : Vec Ideal S2048x1024 .bf16) (p : Fin 512) (f : Fin 1024) :
    k0_pay8 (F := Ideal) x2 x3 (ix2 p f) = ∑ k : Fin 2048, x2 (ix3 0 p k) * x3 (ix2 k f) := by
  pointwise! [Gen.k0_pay8, Gen.k0_pay6, Gen.k0_pay5]

/-- The other projection's payload. -/
theorem pay14_apply (x2 : Vec Ideal S1x512x2048 .bf16) (x4 : Vec Ideal S2048x1024 .bf16) (p : Fin 512) (f : Fin 1024) :
    k0_pay14 (F := Ideal) (k0_pay5 x2) x4 (ix2 p f) = ∑ k : Fin 2048, x2 (ix3 0 p k) * x4 (ix2 k f) := by
  pointwise! [Gen.k0_pay14, Gen.k0_pay5]

theorem pay7_apply (q : Vec Ideal S1x2x1024 .f32) (p : Fin 2) (f : Fin 1024) : k0_pay7 (F := Ideal) q (ix2 p f) = q (ix3 0 p f) := by
  pointwise! [Gen.k0_pay7]
theorem pay4_apply (q : Vec Ideal S1x2x1024 .f32) (p : Fin 2) (f : Fin 1024) : k0_pay4 (F := Ideal) q (ix3 0 p f) = q (ix3 0 p f) := by
  pointwise! [Gen.k0_pay4]
theorem pay12_apply (q : Vec Ideal S2x1024 .f32) (p : Fin 2) (f : Fin 1024) : k0_pay12 (F := Ideal) q (ix3 0 p f) = q (ix2 p f) := by
  pointwise! [Gen.k0_pay12]
theorem pay13_apply (q : Vec Ideal S2x1024 .f32) (p : Fin 2) (f : Fin 1024) : k0_pay13 (F := Ideal) q (ix4 0 0 p f) = q (ix2 p f) := by
  pointwise! [Gen.k0_pay13]
theorem pay3_apply (p : Fin 512) (j : Fin 2048) : k0_pay3 (F := Ideal) (ix3 0 p j) = 0 := by
  pointwise! [Gen.k0_pay3]

/-- The convolution's payload, of the gate's rows and the scratch's shifted rows. -/
theorem pay11_apply (x2 : Vec Ideal S1x512x2048 .bf16) (x3 : Vec Ideal S2048x1024 .bf16) (x7 W0 W1 W2 : Vec Ideal S1x1024 .f32) (A B : Vec Ideal S512x1024 .f32) (p : Fin 512) (f : Fin 1024) :
    k0_pay11 (F := Ideal) (k0_pay9 x2 x3 x7 W2) (k0_pay10 W0) A W1 B (ix2 p f)
      = conv (x7 (ix2 0 f)) (W0 (ix2 0 f)) (W1 (ix2 0 f)) (W2 (ix2 0 f)) (A (ix2 p f)) (B (ix2 p f)) (k0_pay8 (F := Ideal) x2 x3 (ix2 p f)) := by
  rw [pay8_apply]
  unfold conv
  pointwise! [Gen.k0_pay11, Gen.k0_pay9, Gen.k0_pay10, Gen.k0_pay6, Gen.k0_pay5]

/-- The accumulated payload, over the convolution's payload and the other projection's. -/
theorem pay1_apply (u g : FVec Ideal S512x1024 .f32) (a : Vec Ideal S512x1024 .f32) (y : Vec Ideal S1x512x2048 .f32) (x5 : Vec Ideal S1024x2048 .bf16) (p : Fin 512) (j : Fin 2048) :
    k0_pay1 (F := Ideal) u a (k0_pay15 y) g x5 (ix3 0 p j)
      = y (ix3 0 p j) + ∑ f : Fin 1024, (u (ix2 p f) * g (ix2 p f) * a (ix2 p f)) * x5 (ix2 f j) := by
  pointwise! [Gen.k0_pay1, Gen.k0_pay15]

theorem pay16_apply (v27 : FVec Ideal S512x1024 .f32) (v29 : FVec Ideal S1x1024 .f32) (v30 : Vec Ideal S512x1024 .f32) (v34 : Vec Ideal S1x1024 .f32) (v36 : Vec Ideal S512x1024 .f32) (i : S512x1024.Idx) :
    k0_pay11 (F := Ideal) v27 v29 v30 v34 v36 i * k0_pay16 (F := Ideal) v27 v29 v30 v34 v36 i = gelu (k0_pay11 (F := Ideal) v27 v29 v30 v34 v36 i) := by
  unfold Gen.k0_pay16
  generalize k0_pay11 (F := Ideal) v27 v29 v30 v34 v36 = u
  unfold gelu
  pointwise!

/-- The normalising payload. -/
theorem pay2_apply (x0 y : Vec Ideal S1x512x2048 .f32) (x8 : Vec Ideal S1x2048 .f32) (p : Fin 512) (j : Fin 2048) :
    k0_pay2 (F := Ideal) x0 y x8 (ix3 0 p j) = nrm (fun k => x0 (ix3 0 p k) + y (ix3 0 p k)) (x8 (ix2 0 j)) j := by
  unfold nrm
  pointwise! [Gen.k0_pay2]

/-- Rows 6 and 7 of the scratch lie outside its gate rows. -/
theorem hist_not_mem (z : S2x1024.Idx) : (Rect.unit (s := S520x1024) ![6, 0] S2x1024.size inb_S520x1024_S2x1024_6_0).emb z
    ∉ (Rect.unit (s := S520x1024) ![8, 0] S512x1024.size inb_S520x1024_S512x1024_8_0).set := by
  intro hm
  have h0 : 8 ≤ 6 + 1 * (z 0).val := ((Rect.mem_set_unit.mp hm) (0 : Fin 2)).1
  have : (z 0).val < 2 := (z 0).isLt
  omega

/-- The scratch's rows 6 and 7 are the two rows before the block. -/
theorem gcat_hist (q : Vec Ideal S1x2x1024 .f32) (x2 : Vec Ideal S1x512x2048 .bf16) (x3 : Vec Ideal S2048x1024 .bf16) (z : S2x1024.Idx) :
    gcat q x2 x3 ((Rect.unit (s := S520x1024) ![6, 0] S2x1024.size inb_S520x1024_S2x1024_6_0).emb z) = k0_pay7 q z := by
  unfold gcat pieces
  refine Eq.trans (View.canon_cons_of_not_mem _ _ ?_) ?_
  · exact hist_not_mem z
  · exact View.canon_cons_emb _ _ _ _

/-- The scratch's row `r`, which is `d` rows before row `p` of the block's gate. -/
theorem gcat_apply (q : Vec Ideal S1x2x1024 .f32) (x2 : Vec Ideal S1x512x2048 .bf16) (x3 : Vec Ideal S2048x1024 .bf16) (d : ℕ) (hd : d ≤ 2) (p : Fin 512) (f : Fin 1024)
    (r : Fin 520) (hr : r.val + d = p.val + 8) :
    gcat q x2 x3 (ix2 r f) = if hp : d ≤ p.val then k0_pay8 x2 x3 (ix2 ⟨p.val - d, by omega⟩ f) else q (ix3 0 ⟨(p.val + 2 - d) % 2, by omega⟩ f) := by
  by_cases hp : d ≤ p.val
  · rw [dif_pos hp]
    refine Eq.trans (congrArg (gcat q x2 x3) ?_) (gcat_gate q x2 x3 (ix2 (⟨p.val - d, by omega⟩ : Fin 512) f))
    funext a
    apply Fin.ext
    match a with
    | ⟨0, _⟩ => show r.val = 8 + 1 * (p.val - d); omega
    | ⟨1, _⟩ => show f.val = 0 + 1 * f.val; omega
  · rw [dif_neg hp]
    refine Eq.trans (congrArg (gcat q x2 x3) ?_) ((gcat_hist q x2 x3 (ix2 (⟨(p.val + 2 - d) % 2, by omega⟩ : Fin 2) f)).trans (pay7_apply q _ f))
    funext a
    apply Fin.ext
    match a with
    | ⟨0, _⟩ => show r.val = 6 + 1 * ((p.val + 2 - d) % 2); omega
    | ⟨1, _⟩ => show f.val = 0 + 1 * f.val; omega

/-- The gate `d` rows before row `p` of a block, from the rows before the block where there are none in it. -/
def back (q : Vec Ideal S1x2x1024 .f32) (x2 : Vec Ideal S1x512x2048 .bf16) (x3 : Vec Ideal S2048x1024 .bf16) (d : ℕ) (p : Fin 512) (f : Fin 1024) : EReal :=
  if hp : d ≤ p.val then k0_pay8 (F := Ideal) x2 x3 (ix2 ⟨p.val - d, by omega⟩ f) else q (ix3 0 ⟨(p.val + 2 - d) % 2, by omega⟩ f)

/-- A block's convolved entry. -/
def ublk (q : Vec Ideal S1x2x1024 .f32) (x2 : Vec Ideal S1x512x2048 .bf16) (x3 : Vec Ideal S2048x1024 .bf16) (x6 : Vec Ideal S3x1024 .f32) (x7 : Vec Ideal S1x1024 .f32) (p : Fin 512) (f : Fin 1024) : EReal :=
  conv (x7 (ix2 0 f)) (x6 (ix2 0 f)) (x6 (ix2 1 f)) (x6 (ix2 2 f)) (back q x2 x3 2 p f) (back q x2 x3 1 p f) (k0_pay8 (F := Ideal) x2 x3 (ix2 p f))

/-- What a point adds, at row `p` and column `j`. -/
theorem step_apply (q : Vec Ideal S1x2x1024 .f32) (x2 : Vec Ideal S1x512x2048 .bf16) (x3 x4 : Vec Ideal S2048x1024 .bf16) (x5 : Vec Ideal S1024x2048 .bf16)
    (x6 : Vec Ideal S3x1024 .f32) (x7 : Vec Ideal S1x1024 .f32) (y : Vec Ideal S1x512x2048 .f32) (p : Fin 512) (j : Fin 2048) :
    step q x2 x3 x4 x5 x6 x7 y (ix3 0 p j)
      = y (ix3 0 p j) + ∑ f : Fin 1024, (gelu (ublk q x2 x3 x6 x7 p f) * (∑ k : Fin 2048, x2 (ix3 0 p k) * x4 (ix2 k f))) * x5 (ix2 f j) := by
  unfold step
  refine (pay1_apply _ _ _ _ _ p j).trans (congrArg (y (ix3 0 p j) + ·) (Finset.sum_congr rfl fun f _ => ?_))
  rw [pay16_apply, pay14_apply, pay11_apply]
  have a : ∀ (o : ℕ) (d : ℕ) (hd : d ≤ 2) (ho : o + d = 8) (inb), View.ld (Val := Elt Ideal) (gcat q x2 x3) (Rect.unit (s := S520x1024) ![o, 0] S512x1024.size inb) (ix2 p f) = back q x2 x3 d p f := by
    intro o d hd ho inb
    refine Eq.trans (congrArg (gcat q x2 x3) ?_) (gcat_apply q x2 x3 d hd p f ⟨o + p.val, by omega⟩ (by show o + p.val + d = _; omega))
    funext a
    apply Fin.ext
    match a with
    | ⟨0, _⟩ => show o + 1 * p.val = o + p.val; omega
    | ⟨1, _⟩ => show 0 + 1 * f.val = f.val; omega
  have w : ∀ (o : Fin 3) (inb), View.ld (Val := Elt Ideal) x6 (Rect.unit (s := S3x1024) ![o.val, 0] S1x1024.size inb) (ix2 0 f) = x6 (ix2 o f) := by
    intro o inb
    refine congrArg x6 ?_
    funext a
    apply Fin.ext
    match a with
    | ⟨0, _⟩ => show o.val + 1 * 0 = o.val; omega
    | ⟨1, _⟩ => show 0 + 1 * f.val = f.val; omega
  have e0 : w0 x6 (ix2 0 f) = x6 (ix2 0 f) := w 0 _
  have e1 : w1 x6 (ix2 0 f) = x6 (ix2 1 f) := w 1 _
  have e2 : w2 x6 (ix2 0 f) = x6 (ix2 2 f) := w 2 _
  rw [a 6 2 (le_refl _) rfl, a 7 1 (by omega) rfl, e0, e1, e2]
  rfl

end Cert.Proof.Ffn

end
-- ==== Proof.Ffn.Value.lean ====
/- The feed-forward kernel's two result arrays as functions of its arguments: each grid point adds one column group's part
   to a block of 512 rows, the sixth normalises it, and the arrays are those the reference computes (Spec.lean `Y`, `FC`). -/
module

public import proofs.«01_k».proof.Proof.Ffn.Pay
public import Idealize.ShloMosaic.Lib.Pipeline.Value

@[expose] public section

set_option maxRecDepth 16384

noncomputable section

namespace Cert.Proof.Ffn

open Cert.KernelIdeal Cert.KernelIdeal.Gen Idealize.ShloMosaic Idealize.ShloMosaic.TcCoe Cert.Proof.Merge
open Idealize.SL.Sem

variable (m : (ℓ : Loc nD τ sig) → Buf (Elt Ideal) ℓ) (ρ : Dev nD → PrngReg)

/-! ## Where each window's block lies -/

/-- Point `n`'s sequence, its block's row `p` in the sequence and its group's column `f`. -/
def sq (n : ℕ) : Fin 8 := ⟨n / 24 % 8, by omega⟩
def row (n : ℕ) (p : Fin 512) : Fin 2048 := ⟨n / 6 % 4 * 512 + p.val, by omega⟩
def col (n : ℕ) (f : Fin 1024) : Fin 6144 := ⟨n % 6 * 1024 + f.val, by omega⟩

theorem idx0 : ∀ t : Fin cfg0.N, win0_0.index t (0 : Fin 3) = t.val / 24 % 8 ∧ win0_0.index t (1 : Fin 3) = t.val / 6 % 4 ∧ win0_0.index t (2 : Fin 3) = 0 :=
  (by decide +kernel : ∀ t : Fin grid0.N, _)
theorem idx1 : ∀ t : Fin cfg0.N, win0_1.index t (0 : Fin 3) = t.val / 24 % 8 ∧ win0_1.index t (1 : Fin 3) = 0 ∧ win0_1.index t (2 : Fin 3) = t.val % 6 :=
  (by decide +kernel : ∀ t : Fin grid0.N, _)
theorem idx2 : ∀ t : Fin cfg0.N, win0_2.index t (0 : Fin 3) = t.val / 24 % 8 ∧ win0_2.index t (1 : Fin 3) = t.val / 6 % 4 ∧ win0_2.index t (2 : Fin 3) = 0 :=
  (by decide +kernel : ∀ t : Fin grid0.N, _)
theorem idx3 : ∀ t : Fin cfg0.N, win0_3.index t (0 : Fin 2) = 0 ∧ win0_3.index t (1 : Fin 2) = t.val % 6 :=
  (by decide +kernel : ∀ t : Fin grid0.N, _)
theorem idx4 : ∀ t : Fin cfg0.N, win0_4.index t (0 : Fin 2) = 0 ∧ win0_4.index t (1 : Fin 2) = t.val % 6 :=
  (by decide +kernel : ∀ t : Fin grid0.N, _)
theorem idx5 : ∀ t : Fin cfg0.N, win0_5.index t (0 : Fin 2) = t.val % 6 ∧ win0_5.index t (1 : Fin 2) = 0 :=
  (by decide +kernel : ∀ t : Fin grid0.N, _)
theorem idx6 : ∀ t : Fin cfg0.N, win0_6.index t (0 : Fin 2) = 0 ∧ win0_6.index t (1 : Fin 2) = t.val % 6 :=
  (by decide +kernel : ∀ t : Fin grid0.N, _)
theorem idx7 : ∀ t : Fin cfg0.N, win0_7.index t (0 : Fin 2) = 0 ∧ win0_7.index t (1 : Fin 2) = t.val % 6 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 3) = t.val / 24 % 8 ∧ win0_9.index t (1 : Fin 3) = t.val / 6 % 4 ∧ win0_9.index t (2 : Fin 3) = 0 :=
  (by decide +kernel : ∀ t : Fin grid0.N, _)
theorem idx10 : ∀ t : Fin cfg0.N, win0_10.index t (0 : Fin 4) = t.val / 24 % 8 ∧ win0_10.index t (1 : Fin 4) = t.val / 6 % 4 ∧ win0_10.index t (2 : Fin 4) = 0 ∧ win0_10.index t (3 : Fin 4) = t.val % 6 :=
  (by decide +kernel : ∀ t : Fin grid0.N, _)

/-- Window 0: the block's rows of the residual. -/
theorem blk0 (c : Dev nD) (t : Fin cfg0.N) (p : Fin 512) (j : Fin 2048) : iblk m c 0 t (ix3 0 p j) = V m c main_arg0 (ix3 (sq t.val) (row t.val p) j) := by
  obtain ⟨e0, e1, e2⟩ := idx0 t
  show V m c main_arg0 (((cfg0.win 0).blk t).view.emb (ix3 0 p j)) = _
  congr 1
  funext a; apply Fin.ext
  match a with
  | ⟨0, _⟩ => show win0_0.index t (0 : Fin 3) * 1 + 1 * 0 = t.val / 24 % 8; omega
  | ⟨1, _⟩ => show win0_0.index t (1 : Fin 3) * 512 + 1 * p.val = t.val / 6 % 4 * 512 + p.val; omega
  | ⟨2, _⟩ => show win0_0.index t (2 : Fin 3) * 2048 + 1 * j.val = j.val; omega

/-- Window 1: the rows before the sequence, on the group's columns. -/
theorem blk1 (c : Dev nD) (t : Fin cfg0.N) (q : Fin 2) (f : Fin 1024) : iblk m c 1 t (ix3 0 q f) = V m c main_v9 (ix3 (sq t.val) q (col t.val f)) := by
  obtain ⟨e0, e1, e2⟩ := idx1 t
  show V m c main_v9 (((cfg0.win 1).blk t).view.emb (ix3 0 q f)) = _
  congr 1
  funext a; apply Fin.ext
  match a with
  | ⟨0, _⟩ => show win0_1.index t (0 : Fin 3) * 1 + 1 * 0 = t.val / 24 % 8; omega
  | ⟨1, _⟩ => show win0_1.index t (1 : Fin 3) * 2 + 1 * q.val = q.val; omega
  | ⟨2, _⟩ => show win0_1.index t (2 : Fin 3) * 1024 + 1 * f.val = t.val % 6 * 1024 + f.val; omega

/-- Window 2: the block's rows of the input. -/
theorem blk2 (c : Dev nD) (t : Fin cfg0.N) (p : Fin 512) (j : Fin 2048) : iblk m c 2 t (ix3 0 p j) = V m c main_arg1 (ix3 (sq t.val) (row t.val p) j) := by
  obtain ⟨e0, e1, e2⟩ := idx2 t
  show V m c main_arg1 (((cfg0.win 2).blk t).view.emb (ix3 0 p j)) = _
  congr 1
  funext a; apply Fin.ext
  match a with
  | ⟨0, _⟩ => show win0_2.index t (0 : Fin 3) * 1 + 1 * 0 = t.val / 24 % 8; omega
  | ⟨1, _⟩ => show win0_2.index t (1 : Fin 3) * 512 + 1 * p.val = t.val / 6 % 4 * 512 + p.val; omega
  | ⟨2, _⟩ => show win0_2.index t (2 : Fin 3) * 2048 + 1 * j.val = j.val; omega

/-- Window 3: the gate projection's columns of the group. -/
theorem blk3 (c : Dev nD) (t : Fin cfg0.N) (k : Fin 2048) (f : Fin 1024) : iblk m c 3 t (ix2 k f) = V m c main_v1 (ix2 k (col t.val f)) := by
  obtain ⟨e0, e1⟩ := idx3 t
  show V m c main_v1 (((cfg0.win 3).blk t).view.emb (ix2 k f)) = _
  congr 1
  funext a; apply Fin.ext
  match a with
  | ⟨0, _⟩ => show win0_3.index t (0 : Fin 2) * 2048 + 1 * k.val = k.val; omega
  | ⟨1, _⟩ => show win0_3.index t (1 : Fin 2) * 1024 + 1 * f.val = t.val % 6 * 1024 + f.val; omega

/-- Window 4: the other projection's. -/
theorem blk4 (c : Dev nD) (t : Fin cfg0.N) (k : Fin 2048) (f : Fin 1024) : iblk m c 4 t (ix2 k f) = V m c main_v3 (ix2 k (col t.val f)) := by
  obtain ⟨e0, e1⟩ := idx4 t
  show V m c main_v3 (((cfg0.win 4).blk t).view.emb (ix2 k f)) = _
  congr 1
  funext a; apply Fin.ext
  match a with
  | ⟨0, _⟩ => show win0_4.index t (0 : Fin 2) * 2048 + 1 * k.val = k.val; omega
  | ⟨1, _⟩ => show win0_4.index t (1 : Fin 2) * 1024 + 1 * f.val = t.val % 6 * 1024 + f.val; omega

/-- Window 5: the output projection's rows of the group. -/
theorem blk5 (c : Dev nD) (t : Fin cfg0.N) (f : Fin 1024) (j : Fin 2048) : iblk m c 5 t (ix2 f j) = V m c main_v5 (ix2 (col t.val f) j) := by
  obtain ⟨e0, e1⟩ := idx5 t
  show V m c main_v5 (((cfg0.win 5).blk t).view.emb (ix2 f j)) = _
  congr 1
  funext a; apply Fin.ext
  match a with
  | ⟨0, _⟩ => show win0_5.index t (0 : Fin 2) * 1024 + 1 * f.val = t.val % 6 * 1024 + f.val; omega
  | ⟨1, _⟩ => show win0_5.index t (1 : Fin 2) * 2048 + 1 * j.val = j.val; omega

/-- Window 6: the convolution's weights of the group. -/
theorem blk6 (c : Dev nD) (t : Fin cfg0.N) (k : Fin 3) (f : Fin 1024) : iblk m c 6 t (ix2 k f) = V m c main_v6 (ix2 k (col t.val f)) := by
  obtain ⟨e0, e1⟩ := idx6 t
  show V m c main_v6 (((cfg0.win 6).blk t).view.emb (ix2 k f)) = _
  congr 1
  funext a; apply Fin.ext
  match a with
  | ⟨0, _⟩ => show win0_6.index t (0 : Fin 2) * 3 + 1 * k.val = k.val; omega
  | ⟨1, _⟩ => show win0_6.index t (1 : Fin 2) * 1024 + 1 * f.val = t.val % 6 * 1024 + f.val; omega

/-- Window 7: its biases. -/
theorem blk7 (c : Dev nD) (t : Fin cfg0.N) (f : Fin 1024) : iblk m c 7 t (ix2 0 f) = V m c main_v8 (ix2 0 (col t.val f)) := by
  obtain ⟨e0, e1⟩ := idx7 t
  show V m c main_v8 (((cfg0.win 7).blk t).view.emb (ix2 0 f)) = _
  congr 1
  funext a; apply Fin.ext
  match a with
  | ⟨0, _⟩ => show win0_7.index t (0 : Fin 2) * 1 + 1 * 0 = 0; omega
  | ⟨1, _⟩ => show win0_7.index t (1 : Fin 2) * 1024 + 1 * f.val = t.val % 6 * 1024 + f.val; omega

/-- Window 8: the norm's weights. -/
theorem blk8 (c : Dev nD) (t : Fin cfg0.N) (j : Fin 2048) : iblk m c 8 t (ix2 0 j) = V m c main_v10 (ix2 0 j) := by
  obtain ⟨e0, e1⟩ := idx8 t
  show V m c main_v10 (((cfg0.win 8).blk t).view.emb (ix2 0 j)) = _
  congr 1
  funext a; apply Fin.ext
  match a with
  | ⟨0, _⟩ => show win0_8.index t (0 : Fin 2) * 1 + 1 * 0 = 0; omega
  | ⟨1, _⟩ => show win0_8.index t (1 : Fin 2) * 2048 + 1 * j.val = j.val; omega

theorem emb9 (t : Fin cfg0.N) (p : Fin 512) (j : Fin 2048) : ((cfg0.win 9).blk t).view.emb (ix3 0 p j) = ix3 (sq t.val) (row t.val p) j := by
  obtain ⟨e0, e1, e2⟩ := idx9 t
  funext a; apply Fin.ext
  match a with
  | ⟨0, _⟩ => show win0_9.index t (0 : Fin 3) * 1 + 1 * 0 = t.val / 24 % 8; omega
  | ⟨1, _⟩ => show win0_9.index t (1 : Fin 3) * 512 + 1 * p.val = t.val / 6 % 4 * 512 + p.val; omega
  | ⟨2, _⟩ => show win0_9.index t (2 : Fin 3) * 2048 + 1 * j.val = j.val; omega

/-- Point `n`'s block of rows in its sequence. -/
def blkOf (n : ℕ) : Fin 4 := ⟨n / 6 % 4, by omega⟩

theorem emb10 (t : Fin cfg0.N) (q : Fin 2) (f : Fin 1024) : ((cfg0.win 10).blk t).view.emb (ix4 0 0 q f) = ix4 (sq t.val) (blkOf t.val) q (col t.val f) := by
  obtain ⟨e0, e1, e2, e3⟩ := idx10 t
  funext a; apply Fin.ext
  match a with
  | ⟨0, _⟩ => show win0_10.index t (0 : Fin 4) * 1 + 1 * 0 = t.val / 24 % 8; omega
  | ⟨1, _⟩ => show win0_10.index t (1 : Fin 4) * 1 + 1 * 0 = t.val / 6 % 4; omega
  | ⟨2, _⟩ => show win0_10.index t (2 : Fin 4) * 2 + 1 * q.val = q.val; omega
  | ⟨3, _⟩ => show win0_10.index t (3 : Fin 4) * 1024 + 1 * f.val = t.val % 6 * 1024 + f.val; omega

/-! ## What the host prepared -/

theorem cast1 (w : FVec Ideal S1x2048x6144 .f32) (p : Fin 2048) (j : Fin 6144) :
    truncf (F := Ideal) (φ := .f32) .bf16 (shapeCast S2048x6144 w shapeCasts_S1x2048x6144_S2048x6144) bitsLt_bf16_f32 (ix2 p j) = w (ix3 0 p j) := by pointwise
theorem cast5 (w : FVec Ideal S1x6144x2048 .f32) (p : Fin 6144) (j : Fin 2048) :
    truncf (F := Ideal) (φ := .f32) .bf16 (shapeCast S6144x2048 w shapeCasts_S1x6144x2048_S6144x2048) bitsLt_bf16_f32 (ix2 p j) = w (ix3 0 p j) := by pointwise
theorem cast6 (w : FVec Ideal S1x3x6144 .f32) (p : Fin 3) (j : Fin 6144) : shapeCast S3x6144 w shapeCasts_S1x3x6144_S3x6144 (ix2 p j) = w (ix3 0 p j) := by pointwise
theorem cast8 (w : FVec Ideal S1x6144 .f32) (j : Fin 6144) :
    shapeCast S1x6144 (shapeCast S6144 w shapeCasts_S1x6144_S6144) shapeCasts_S6144_S1x6144 (ix2 0 j) = w (ix2 0 j) := by pointwise
theorem cast9 (b : Fin 8) (q : Fin 2) (f : Fin 6144) :
    broadcastInDim S8x2x6144 ![] bcast_S_S8x2x6144 (constant (F := Ideal) S_ .f32 0x00000000#32) (ix3 b q f) = (0 : EReal) := by pointwise!
theorem cast10 (w : FVec Ideal S2048 .f32) (j : Fin 2048) : shapeCast S1x2048 w shapeCasts_S2048_S1x2048 (ix2 0 j) = w (ix1 j) := by pointwise

theorem V1 (c : Dev nD) (p : Fin 2048) (j : Fin 6144) : V m c main_v1 (ix2 p j) = (m ((c : Thread nD τ).loc main_arg2) : FVec Ideal S1x2048x6144 .f32) (ix3 0 p j) := by
  have h : V m c main_v1 = (truncf (F := Ideal) (φ := .f32) .bf16 (shapeCast S2048x6144 (m ((c : Thread nD τ).loc main_arg2) : FVec Ideal S1x2048x6144 .f32) shapeCasts_S1x2048x6144_S2048x6144) bitsLt_bf16_f32) := by
    unfold_abbrev_sides
    after_results <;> rfl
  rw [h]; exact cast1 _ p j

theorem V3 (c : Dev nD) (p : Fin 2048) (j : Fin 6144) : V m c main_v3 (ix2 p j) = (m ((c : Thread nD τ).loc main_arg3) : FVec Ideal S1x2048x6144 .f32) (ix3 0 p j) := by
  have h : V m c main_v3 = (truncf (F := Ideal) (φ := .f32) .bf16 (shapeCast S2048x6144 (m ((c : Thread nD τ).loc main_arg3) : FVec Ideal S1x2048x6144 .f32) shapeCasts_S1x2048x6144_S2048x6144) bitsLt_bf16_f32) := by
    unfold_abbrev_sides
    after_results <;> rfl
  rw [h]; exact cast1 _ p j

theorem V5 (c : Dev nD) (p : Fin 6144) (j : Fin 2048) : V m c main_v5 (ix2 p j) = (m ((c : Thread nD τ).loc main_arg6) : FVec Ideal S1x6144x2048 .f32) (ix3 0 p j) := by
  have h : V m c main_v5 = (truncf (F := Ideal) (φ := .f32) .bf16 (shapeCast S6144x2048 (m ((c : Thread nD τ).loc main_arg6) : FVec Ideal S1x6144x2048 .f32) shapeCasts_S1x6144x2048_S6144x2048) bitsLt_bf16_f32) := by
    unfold_abbrev_sides
    after_results <;> rfl
  rw [h]; exact cast5 _ p j

theorem V6 (c : Dev nD) (p : Fin 3) (j : Fin 6144) : V m c main_v6 (ix2 p j) = (m ((c : Thread nD τ).loc main_arg4) : FVec Ideal S1x3x6144 .f32) (ix3 0 p j) := by
  have h : V m c main_v6 = (shapeCast S3x6144 (m ((c : Thread nD τ).loc main_arg4) : FVec Ideal S1x3x6144 .f32) shapeCasts_S1x3x6144_S3x6144) := by
    unfold_abbrev_sides
    after_results <;> rfl
  rw [h]; exact cast6 _ p j

theorem V8 (c : Dev nD) (j : Fin 6144) : V m c main_v8 (ix2 0 j) = (m ((c : Thread nD τ).loc main_arg5) : FVec Ideal S1x6144 .f32) (ix2 0 j) := by
  have h : V m c main_v8 = (shapeCast S1x6144 (shapeCast S6144 (m ((c : Thread nD τ).loc main_arg5) : FVec Ideal S1x6144 .f32) shapeCasts_S1x6144_S6144) shapeCasts_S6144_S1x6144) := by
    unfold_abbrev_sides
    after_results <;> rfl
  rw [h]; exact cast8 _ j

theorem V9 (c : Dev nD) (b : Fin 8) (q : Fin 2) (f : Fin 6144) : V m c main_v9 (ix3 b q f) = (0 : EReal) := by
  have h : V m c main_v9 = (broadcastInDim S8x2x6144 ![] bcast_S_S8x2x6144 (constant (F := Ideal) S_ .f32 0x00000000#32)) := by
    unfold_abbrev_sides
    after_results <;> rfl
  rw [h]; exact cast9 b q f

theorem V10 (c : Dev nD) (j : Fin 2048) : V m c main_v10 (ix2 0 j) = (m ((c : Thread nD τ).loc main_arg7) : FVec Ideal S2048 .f32) (ix1 j) := by
  have h : V m c main_v10 = (shapeCast S1x2048 (m ((c : Thread nD τ).loc main_arg7) : FVec Ideal S2048 .f32) shapeCasts_S2048_S1x2048) := by
    unfold_abbrev_sides
    after_results <;> rfl
  rw [h]; exact cast10 _ j

/-! ## The blocks a point works on -/

abbrev ax (c : Dev nD) : FVec Ideal Sx .f32 := m ((c : Thread nD τ).loc main_arg0)
abbrev ah (c : Dev nD) : FVec Ideal Sx .bf16 := m ((c : Thread nD τ).loc main_arg1)
abbrev ag (c : Dev nD) : FVec Ideal Sw .f32 := m ((c : Thread nD τ).loc main_arg2)
abbrev au (c : Dev nD) : FVec Ideal Sw .f32 := m ((c : Thread nD τ).loc main_arg3)
abbrev aw (c : Dev nD) : FVec Ideal Sc .f32 := m ((c : Thread nD τ).loc main_arg4)
abbrev ab (c : Dev nD) : FVec Ideal Sb .f32 := m ((c : Thread nD τ).loc main_arg5)
abbrev ad (c : Dev nD) : FVec Ideal Sd .f32 := m ((c : Thread nD τ).loc main_arg6)
abbrev an (c : Dev nD) : FVec Ideal Sn .f32 := m ((c : Thread nD τ).loc main_arg7)

theorem rd0 (c : Dev nD) (t : Fin cfg0.N) (p : Fin 512) (j : Fin 2048) : iblk m c 0 t (ix3 0 p j) = ax m c (ix3 (sq t.val) (row t.val p) j) :=
  (blk0 m c t p j).trans (congrFun (V_main_arg0 m c) _)
theorem rd1 (c : Dev nD) (t : Fin cfg0.N) (q : Fin 2) (f : Fin 1024) : iblk m c 1 t (ix3 0 q f) = (0 : EReal) :=
  (blk1 m c t q f).trans (V9 m c _ _ _)
theorem rd2 (c : Dev nD) (t : Fin cfg0.N) (p : Fin 512) (j : Fin 2048) : iblk m c 2 t (ix3 0 p j) = ah m c (ix3 (sq t.val) (row t.val p) j) :=
  (blk2 m c t p j).trans (congrFun (V_main_arg1 m c) _)
theorem rd3 (c : Dev nD) (t : Fin cfg0.N) (k : Fin 2048) (f : Fin 1024) : iblk m c 3 t (ix2 k f) = ag m c (ix3 0 k (col t.val f)) :=
  (blk3 m c t k f).trans (V1 m c _ _)
theorem rd4 (c : Dev nD) (t : Fin cfg0.N) (k : Fin 2048) (f : Fin 1024) : iblk m c 4 t (ix2 k f) = au m c (ix3 0 k (col t.val f)) :=
  (blk4 m c t k f).trans (V3 m c _ _)
theorem rd5 (c : Dev nD) (t : Fin cfg0.N) (f : Fin 1024) (j : Fin 2048) : iblk m c 5 t (ix2 f j) = ad m c (ix3 0 (col t.val f) j) :=
  (blk5 m c t f j).trans (V5 m c _ _)
theorem rd6 (c : Dev nD) (t : Fin cfg0.N) (k : Fin 3) (f : Fin 1024) : iblk m c 6 t (ix2 k f) = aw m c (ix3 0 k (col t.val f)) :=
  (blk6 m c t k f).trans (V6 m c _ _)
theorem rd7 (c : Dev nD) (t : Fin cfg0.N) (f : Fin 1024) : iblk m c 7 t (ix2 0 f) = ab m c (ix2 0 (col t.val f)) :=
  (blk7 m c t f).trans (V8 m c _)
theorem rd8 (c : Dev nD) (t : Fin cfg0.N) (j : Fin 2048) : iblk m c 8 t (ix2 0 j) = an m c (ix1 j) :=
  (blk8 m c t j).trans (V10 m c _)

/-- A projection of a block's rows, from the arrays'. -/
theorem proj_rows (n : ℕ) (h : FVec Ideal Sx .bf16) (w : FVec Ideal Sw .f32) (x2 : Vec Ideal S1x512x2048 .bf16) (x3 : Vec Ideal S2048x1024 .bf16)
    (h2 : ∀ p j, x2 (ix3 0 p j) = h (ix3 (sq n) (row n p) j)) (h3 : ∀ k f, x3 (ix2 k f) = w (ix3 0 k (col n f))) (p : Fin 512) (f : Fin 1024) :
    (∑ k : Fin 2048, x2 (ix3 0 p k) * x3 (ix2 k f)) = proj h w (sq n) (row n p) (col n f) := by
  unfold proj
  simp only [h2, h3]

/-- The gate's block. -/
theorem gate_blk (c : Dev nD) (t : Fin cfg0.N) (p : Fin 512) (f : Fin 1024) :
    k0_pay8 (F := Ideal) (iblk m c 2 t) (iblk m c 3 t) (ix2 p f) = proj (ah m c) (ag m c) (sq t.val) (row t.val p) (col t.val f) :=
  (pay8_apply _ _ p f).trans (proj_rows t.val (ah m c) (ag m c) _ _ (rd2 m c t) (rd3 m c t) p f)

abbrev X2 (c : Dev nD) (t : Fin cfg0.N) : Vec Ideal S1x512x2048 .bf16 := iblk m c 2 t
abbrev X4 (c : Dev nD) (t : Fin cfg0.N) : Vec Ideal S2048x1024 .bf16 := iblk m c 4 t

/-- The other projection's block. -/
theorem up_blk (c : Dev nD) (t : Fin cfg0.N) (p : Fin 512) (f : Fin 1024) :
    (∑ k : Fin 2048, X2 m c t (ix3 0 p k) * X4 m c t (ix2 k f))
      = proj (ah m c) (au m c) (sq t.val) (row t.val p) (col t.val f) :=
  proj_rows t.val (ah m c) (au m c) _ _ (rd2 m c t) (rd4 m c t) p f

/-- The last two gate rows of a point's block. -/
theorem tailAt_apply (c : Dev nD) (t : Fin cfg0.N) (q : Fin 2) (f : Fin 1024) :
    tailAt m c t (ix2 q f) = proj (ah m c) (ag m c) (sq t.val) (row t.val ⟨510 + q.val, by omega⟩) (col t.val f) := by
  unfold tailAt
  refine (tail_apply _ _ _ (ix2 q f)).trans (Eq.trans (congrArg _ ?_) (gate_blk m c t ⟨510 + q.val, by omega⟩ f))
  funext a
  match a with
  | ⟨0, _⟩ => rfl
  | ⟨1, _⟩ => rfl

/-- The two gate rows before a point's block: `q` counts them, the second row is the one just before. -/
theorem histAt_apply (c : Dev nD) (t : Fin cfg0.N) (q : Fin 2) (f : Fin 1024) (d : ℕ) (p : Fin 512) (hp : p.val < d) (hd : d ≤ 2) (hq : q.val + d = p.val + 2) :
    histAt m c t (ix3 0 q f) = past (ah m c) (ag m c) d (sq t.val) (row t.val p) (col t.val f) := by
  unfold histAt past
  have hr : (row t.val p).val = t.val / 6 % 4 * 512 + p.val := rfl
  by_cases hs : start (grid0.coords t)
  · have h0 := (start_iff t).mp hs
    rw [if_pos hs, if_neg (by rw [hr]; omega)]
    exact (pay4_apply _ q f).trans (rd1 m c t q f)
  · have h0 := (start_iff t).not.mp hs
    have hN := lt_N t
    rw [if_neg hs, if_pos (by rw [hr]; omega)]
    refine (pay12_apply _ q f).trans ((tailAt_apply m c _ q f).trans ?_)
    congr 1
    · exact Fin.ext (show (t.val - 6) / 24 % 8 = t.val / 24 % 8 by omega)
    · exact Fin.ext (show (t.val - 6) / 6 % 4 * 512 + (510 + q.val) = t.val / 6 % 4 * 512 + p.val - d by omega)
    · exact Fin.ext (show (t.val - 6) % 6 * 1024 + f.val = t.val % 6 * 1024 + f.val by omega)

/-- The gate `d` rows before row `p` of a point's block. -/
theorem back_eq (c : Dev nD) (t : Fin cfg0.N) (d : ℕ) (hd : d ≤ 2) (p : Fin 512) (f : Fin 1024) :
    back (histAt m c t) (iblk m c 2 t) (iblk m c 3 t) d p f = past (ah m c) (ag m c) d (sq t.val) (row t.val p) (col t.val f) := by
  unfold back
  have hr : (row t.val p).val = t.val / 6 % 4 * 512 + p.val := rfl
  by_cases hp : d ≤ p.val
  · rw [dif_pos hp]
    unfold past
    rw [if_pos (by rw [hr]; omega)]
    refine (gate_blk m c t _ f).trans ?_
    congr 1
    exact Fin.ext (show t.val / 6 % 4 * 512 + (p.val - d) = t.val / 6 % 4 * 512 + p.val - d by omega)
  · rw [dif_neg hp]
    exact histAt_apply m c t _ f d p (by omega) hd (by show (p.val + 2 - d) % 2 + d = p.val + 2; omega)

/-- The convolved gate of a point's block. -/
theorem ublk_eq (c : Dev nD) (t : Fin cfg0.N) (p : Fin 512) (f : Fin 1024) :
    ublk (histAt m c t) (iblk m c 2 t) (iblk m c 3 t) (iblk m c 6 t) (iblk m c 7 t) p f
      = U (ah m c) (ag m c) (aw m c) (ab m c) (sq t.val) (row t.val p) (col t.val f) := by
  unfold ublk U
  rw [back_eq m c t 2 (le_refl _), back_eq m c t 1 (by omega), gate_blk, rd7, rd6, rd6, rd6]

/-- One column group's part of an entry of the projected hidden row. -/
def part (c : Dev nD) (n : ℕ) (b : Fin 8) (r j : Fin 2048) : EReal :=
  ∑ f : Fin 1024, hid (ah m c) (ag m c) (au m c) (aw m c) (ab m c) b r (col n f) * ad m c (ix3 0 (col n f) j)

/-- A point adds its group's part. -/
theorem step_blk (c : Dev nD) (t : Fin cfg0.N) (y : Vec Ideal S1x512x2048 .f32) (p : Fin 512) (j : Fin 2048) :
    step (histAt m c t) (iblk m c 2 t) (iblk m c 3 t) (iblk m c 4 t) (iblk m c 5 t) (iblk m c 6 t) (iblk m c 7 t) y (ix3 0 p j)
      = y (ix3 0 p j) + part m c t.val (sq t.val) (row t.val p) j := by
  refine (step_apply _ _ _ _ _ _ _ _ p j).trans (congrArg (y (ix3 0 p j) + ·) (Finset.sum_congr rfl fun f _ => ?_))
  rw [ublk_eq, up_blk, rd5]
  rfl

/-- The parts summed over the six groups are the whole sum. -/
theorem parts_sum (c : Dev nD) (b : Fin 8) (r j : Fin 2048) :
    (∑ k ∈ Finset.range 6, part m c k b r j) = ∑ f : Fin 6144, hid (ah m c) (ag m c) (au m c) (aw m c) (ab m c) b r f * ad m c (ix3 0 f j) := by
  rw [Finset.sum_range, Fin.sum_univ_tiles 6 1024 rfl]
  refine Finset.sum_congr rfl fun k _ => Finset.sum_congr rfl fun f _ => ?_
  have e : col k.val f = ⟨k.val * 1024 + f.val, by omega⟩ := Fin.ext (by show k.val % 6 * 1024 + f.val = _; simp only []; omega)
  rw [e]

/-- Before a block's last group, the result's buffer holds the parts so far. -/
theorem yAt_parts (c : Dev nD) (p : Fin 512) (j : Fin 2048) : ∀ (n : ℕ) (hn : n < cfg0.N), n % 6 < 5 →
    yAt m c n hn (ix3 0 p j) = ∑ k ∈ Finset.range (n % 6 + 1), part m c k (sq n) (row n p) j := by
  intro n
  induction n with
  | zero =>
    intro hn _
    rw [yAt_first m c ⟨0, hn⟩ rfl (k0_pay3 (F := Ideal))]
    unfold pointAt yNew
    rw [if_neg ((last_iff ⟨0, hn⟩).not.mpr (by show ¬(0 % 6 = 5); omega)), if_pos ((first_iff ⟨0, hn⟩).mpr rfl), step_blk, pay3_apply, zero_add]
    exact (Finset.sum_range_one (fun k => part m c k (sq 0) (row 0 p) j)).symm
  | succ n ih =>
    intro hn h5
    have hl := (last_iff ⟨n + 1, hn⟩).not.mpr (by show ¬((n + 1) % 6 = 5); omega)
    by_cases h0 : (n + 1) % 6 = 0
    · rw [yAt_first m c ⟨n + 1, hn⟩ h0 (k0_pay3 (F := Ideal))]
      unfold pointAt yNew
      rw [if_neg hl, if_pos ((first_iff ⟨n + 1, hn⟩).mpr h0), step_blk, pay3_apply, zero_add, h0]
      refine Eq.trans ?_ (Finset.sum_range_one (fun k => part m c k (sq (n + 1)) (row (n + 1) p) j)).symm
      unfold part
      refine Finset.sum_congr rfl fun f _ => ?_
      have e : col (n + 1) f = col 0 f := Fin.ext (by show (n + 1) % 6 * 1024 + f.val = 0 % 6 * 1024 + f.val; omega)
      rw [e]
    · rw [yAt_succ m c ⟨n + 1, hn⟩ h0]
      unfold pointAt yNew
      rw [if_neg hl, if_neg ((first_iff ⟨n + 1, hn⟩).not.mpr h0), step_blk]
      have hm : (n + 1) % 6 = n % 6 + 1 := by omega
      have es : sq (n + 1) = sq n := Fin.ext (by show (n + 1) / 24 % 8 = n / 24 % 8; omega)
      have er : row (n + 1) p = row n p := Fin.ext (by show (n + 1) / 6 % 4 * 512 + p.val = n / 6 % 4 * 512 + p.val; omega)
      refine Eq.trans (congrArg (· + part m c (n + 1) (sq (n + 1)) (row (n + 1) p) j) (ih (Nat.lt_of_succ_lt hn) (by omega))) ?_
      rw [es, er, hm, Finset.sum_range_succ _ (n % 6 + 1)]
      congr 1
      unfold part
      refine Finset.sum_congr rfl fun f _ => ?_
      have e : col (n + 1) f = col (n % 6 + 1) f := Fin.ext (by show (n + 1) % 6 * 1024 + f.val = (n % 6 + 1) % 6 * 1024 + f.val; omega)
      rw [e]

/-! ## The two result arrays -/

/-- The first result, of the launch contents. -/
abbrev val0 (c : Dev nD) : FVec Ideal Sx .f32 := Y (ax m c) (ah m c) (ag m c) (au m c) (aw m c) (ab m c) (ad m c) (an m c)

/-- The second result, of the launch contents. -/
abbrev val1 (c : Dev nD) : FVec Ideal Sf .f32 := FC (ah m c) (ag m c)

/-- At a block's last group the result's buffer holds the block's rows of the first result. -/
theorem yAt_last (c : Dev nD) (t : Fin cfg0.N) (h : t.val % 6 = 5) (p : Fin 512) (j : Fin 2048) :
    yAt m c t.val t.isLt (ix3 0 p j) = val0 m c (ix3 (sq t.val) (row t.val p) j) := by
  have h0 : ¬t.val % 6 = 0 := by omega
  rw [yAt_succ m c t h0]
  unfold pointAt yNew
  rw [if_pos ((last_iff t).mpr h), if_neg ((first_iff t).not.mpr h0), pay2_apply, rd8]
  show nrm _ _ _ = nrm (fun k => out (ax m c) (ah m c) (ag m c) (au m c) (aw m c) (ab m c) (ad m c) (sq t.val) (row t.val p) k) (an m c (ix1 j)) j
  refine congrArg (fun z : Fin 2048 → EReal => nrm z (an m c (ix1 j)) j) (funext fun k => ?_)
  have hm : (t.val - 1) % 6 = 4 := by omega
  have es : sq (t.val - 1) = sq t.val := Fin.ext (by show (t.val - 1) / 24 % 8 = t.val / 24 % 8; omega)
  have er : row (t.val - 1) p = row t.val p := Fin.ext (by show (t.val - 1) / 6 % 4 * 512 + p.val = t.val / 6 % 4 * 512 + p.val; omega)
  have ep : part m c t.val (sq t.val) (row t.val p) k = part m c 5 (sq t.val) (row t.val p) k := by
    unfold part
    refine Finset.sum_congr rfl fun f _ => ?_
    have e : col t.val f = col 5 f := Fin.ext (by show t.val % 6 * 1024 + f.val = 5 % 6 * 1024 + f.val; omega)
    rw [e]
  rw [step_blk, yAt_parts m c p k _ _ (by omega), hm, es, er, ep, ← Finset.sum_range_succ (fun k' => part m c k' (sq t.val) (row t.val p) k) 5, parts_sum, rd0]
  rfl

/-- What point `t` writes back to the first result is the point's block of `val0`. -/
theorem flushed9_eq (c : Dev nD) (t : Fin cfg0.N) (h : (cfg0.win 9).flush t = true) :
    (dats m 0 c).flushed 9 t = ((cfg0.win 9).blk t).view.read (Elt Ideal) (val0 m c) := by
  have e : (dats m 0 c).flushed 9 t = yAt m c t.val t.isLt := by
    show (cfg0.win 9).cut (grid0.coords t) ((dats m 0 c).after 9 t) = _
    rw [after0_9]; rfl
  rw [e]
  funext (i : S1x512x2048.Idx)
  idx_vars i
  show yAt m c t.val t.isLt (ix3 i0 i1 i2) = val0 m c (((cfg0.win 9).blk t).view.emb (ix3 i0 i1 i2))
  obtain rfl : i0 = 0 := Subsingleton.elim _ _
  rw [emb9]
  exact yAt_last m c t ((flush0_9 t).mp h) i1 i2

/-- What point `t` writes back to the second result is the point's block of `val1`. -/
theorem flushed10_eq (c : Dev nD) (t : Fin cfg0.N) :
    (dats m 0 c).flushed 10 t = ((cfg0.win 10).blk t).view.read (Elt Ideal) (val1 m c) := by
  have e : (dats m 0 c).flushed 10 t = k0_pay13 (tailAt m c t) := by
    show (cfg0.win 10).cut (grid0.coords t) ((dats m 0 c).after 10 t) = _
    rw [after0_10]; rfl
  rw [e]
  funext (i : S1x1x2x1024.Idx)
  idx_vars i
  show k0_pay13 (tailAt m c t) (ix4 i0 i1 i2 i3) = val1 m c (((cfg0.win 10).blk t).view.emb (ix4 i0 i1 i2 i3))
  obtain rfl : i0 = 0 := Subsingleton.elim _ _
  obtain rfl : i1 = 0 := Subsingleton.elim _ _
  rw [emb10, pay13_apply, tailAt_apply]
  rfl

/-- Every index of the first result lies in the block of its rows' last point. -/
theorem covered9 (i : S8x2048x2048.Idx) : ∃ t : Fin cfg0.N, (cfg0.win 9).flush t = true ∧ i ∈ ((cfg0.win 9).blk t).view.set := by
  idx_vars i
  have hN : i0.val * 24 + i1.val / 512 * 6 + 5 < cfg0.N := lt_of_lt_of_eq (by omega : _ < 192) N_0.symm
  refine ⟨⟨i0.val * 24 + i1.val / 512 * 6 + 5, hN⟩, (flush0_9 _).mpr (by show (i0.val * 24 + i1.val / 512 * 6 + 5) % 6 = 5; omega), ?_⟩
  have h := ((cfg0.win 9).blk (⟨i0.val * 24 + i1.val / 512 * 6 + 5, hN⟩ : Fin cfg0.N)).view.emb_mem_set (ix3 (0 : Fin 1) (⟨i1.val % 512, by omega⟩ : Fin 512) i2)
  rw [emb9] at h
  have es : sq (i0.val * 24 + i1.val / 512 * 6 + 5) = i0 := Fin.ext (by show (i0.val * 24 + i1.val / 512 * 6 + 5) / 24 % 8 = i0.val; omega)
  have er : row (i0.val * 24 + i1.val / 512 * 6 + 5) (⟨i1.val % 512, by omega⟩ : Fin 512) = i1 :=
    Fin.ext (by show (i0.val * 24 + i1.val / 512 * 6 + 5) / 6 % 4 * 512 + i1.val % 512 = i1.val; omega)
  rwa [es, er] at h

/-- Every index of the second result lies in the block of its point. -/
theorem covered10 (i : S8x4x2x6144.Idx) : ∃ t : Fin cfg0.N, (cfg0.win 10).flush t = true ∧ i ∈ ((cfg0.win 10).blk t).view.set := by
  idx_vars i
  have hN : i0.val * 24 + i1.val * 6 + i3.val / 1024 < cfg0.N := lt_of_lt_of_eq (by omega : _ < 192) N_0.symm
  refine ⟨⟨i0.val * 24 + i1.val * 6 + i3.val / 1024, hN⟩, flush0_10 _, ?_⟩
  have h := ((cfg0.win 10).blk (⟨i0.val * 24 + i1.val * 6 + i3.val / 1024, hN⟩ : Fin cfg0.N)).view.emb_mem_set (ix4 (0 : Fin 1) (0 : Fin 1) i2 (⟨i3.val % 1024, by omega⟩ : Fin 1024))
  rw [emb10] at h
  have es : sq (i0.val * 24 + i1.val * 6 + i3.val / 1024) = i0 := Fin.ext (by show (i0.val * 24 + i1.val * 6 + i3.val / 1024) / 24 % 8 = i0.val; omega)
  have eb : blkOf (i0.val * 24 + i1.val * 6 + i3.val / 1024) = i1 := Fin.ext (by show (i0.val * 24 + i1.val * 6 + i3.val / 1024) / 6 % 4 = i1.val; omega)
  have ec : col (i0.val * 24 + i1.val * 6 + i3.val / 1024) (⟨i3.val % 1024, by omega⟩ : Fin 1024) = i3 :=
    Fin.ext (by show (i0.val * 24 + i1.val * 6 + i3.val / 1024) % 6 * 1024 + i3.val % 1024 = i3.val; omega)
  rwa [es, eb, ec] at h

theorem final9 (c : Dev nD) : (dats m 0 c).arrAt 9 cfg0.N = val0 m c :=
  (dats m 0 c).arrAt_eq_of_cover 9 (val0 m c) (flushed9_eq m c) covered9

theorem final10 (c : Dev nD) : (dats m 0 c).arrAt 10 cfg0.N = val1 m c :=
  (dats m 0 c).arrAt_eq_of_cover 10 (val1 m c) (fun t _ => flushed10_eq m c t) covered10

end Cert.Proof.Ffn

end
-- ==== Proof.Ffn.Ref.lean ====
/- The feed-forward reference's two results, as the arrays of Spec.lean. -/
module

public import proofs.«01_k».proof.Proof.Gen.ReferenceIdeal.Run
public import proofs.«01_k».proof.Proof.Ffn.Spec

@[expose] public section

set_option maxRecDepth 16384

noncomputable section

namespace Cert.Proof.Ffn

open Cert.ReferenceIdeal Cert.ReferenceIdeal.Gen Cert.ReferenceIdeal.Value Idealize.ShloMosaic Idealize.ShloMosaic.TcCoe
open Idealize.SL.Sem Cert.Proof.Merge

variable (x : FVec Ideal S8x2048x2048 .f32) (h : FVec Ideal S8x2048x2048 .bf16) (wg wu : FVec Ideal S1x2048x6144 .f32)
  (cw : FVec Ideal S1x3x6144 .f32) (cb : FVec Ideal S1x6144 .f32) (wd : FVec Ideal S1x6144x2048 .f32) (nf : FVec Ideal S2048 .f32)

/-- The operations' term for a projection of the input. -/
abbrev TG (w : FVec Ideal S1x2048x6144 .f32) : FVec Ideal S8x2048x6144 .f32 :=
  Host.dotGeneral dot_S8x2048x2048_S2048x6144_S8x2048x6144_2_0_01_1_n_n none (extf .f32 h bitsLt_bf16_f32)
    (shapeCast S2048x6144 w shapeCasts_S1x2048x6144_S2048x6144)

theorem TG_apply (w : FVec Ideal S1x2048x6144 .f32) (b : Fin 8) (r : Fin 2048) (f : Fin 6144) : TG h w (ix3 b r f) = proj h w b r f := by
  unfold proj
  pointwise!

/-- The operations' term for the gate with two zero rows before each sequence. -/
abbrev TX (g : FVec Ideal S8x2048x6144 .f32) : FVec Ideal S8x2050x6144 .f32 :=
  concatenate S8x2050x6144 1 [⟨S8x2x6144, broadcastInDim S8x2x6144 ![] bcast_S_S8x2x6144 (constant (F := Ideal) S_ .f32 0x00000000#32)⟩, ⟨S8x2048x6144, g⟩]
    concatenates_S8x2x6144_S8x2048x6144_S8x2050x6144_d1

/-- Rows from row `a` of it are the gate's rows `2 - a` before, zero where there are none. -/
theorem TX_apply (g : FVec Ideal S8x2048x6144 .f32) (b : Fin 8) (r : Fin 2050) (f : Fin 6144) :
    TX g (ix3 b r f) = if hr : 2 ≤ r.val then g (ix3 b ⟨r.val - 2, by omega⟩ f) else 0 := by
  have e : TX g (ix3 b r f) = if hr : r.val < 2 then 0 else g (ix3 b ⟨r.val - 2, by omega⟩ f) := by pointwise!
  rw [e]
  by_cases hr : r.val < 2
  · rw [dif_pos hr, dif_neg (by omega)]
  · rw [dif_neg hr, dif_pos (by omega)]

/-- The padded gate `d` rows before row `r`. -/
theorem TX_past (d : ℕ) (b : Fin 8) (r : Fin 2048) (f : Fin 6144) (q : Fin 2050) (hq : q.val + d = r.val + 2) :
    TX (TG h wg) (ix3 b q f) = past h wg d b r f := by
  rw [TX_apply]
  unfold past
  by_cases hd : d ≤ r.val
  · rw [dif_pos (by omega), if_pos hd, TG_apply]
    congr 1
    exact Fin.ext (show q.val - 2 = r.val - d by omega)
  · rw [dif_neg (by omega), if_neg hd]

theorem T9_apply (X : FVec Ideal S8x2050x6144 .f32) (b : Fin 8) (r : Fin 2048) (f : Fin 6144) :
    extractStridedSlice S8x2048x6144 ![0, 0, 0] X slices_S8x2050x6144_S8x2048x6144_0_0_0 (ix3 b r f) = X (ix3 b ⟨r.val, by omega⟩ f) := by
  pointwise!
theorem T17_apply (X : FVec Ideal S8x2050x6144 .f32) (b : Fin 8) (r : Fin 2048) (f : Fin 6144) :
    extractStridedSlice S8x2048x6144 ![0, 1, 0] X slices_S8x2050x6144_S8x2048x6144_0_1_0 (ix3 b r f) = X (ix3 b ⟨1 + r.val, by omega⟩ f) := by
  pointwise!
theorem T24_apply (X : FVec Ideal S8x2050x6144 .f32) (b : Fin 8) (r : Fin 2048) (f : Fin 6144) :
    extractStridedSlice S8x2048x6144 ![0, 2, 0] X slices_S8x2050x6144_S8x2048x6144_0_2_0 (ix3 b r f) = X (ix3 b ⟨2 + r.val, by omega⟩ f) := by
  pointwise!

/-- The operations' term for a row of the convolution's weights along every row. -/
abbrev TW (a : ℕ) (ha : S3x6144.Slices ![a, 0] S1x6144) : FVec Ideal S8x2048x6144 .f32 :=
  broadcastInDim S8x2048x6144 ![0, 1, 2] bcast_S1x1x6144_S8x2048x6144_0_1_2 (broadcastInDim S1x1x6144 ![2] bcast_S6144_S1x1x6144_2
    (shapeCast S6144 (extractStridedSlice S1x6144 ![a, 0] (shapeCast S3x6144 cw shapeCasts_S1x3x6144_S3x6144) ha) shapeCasts_S1x6144_S6144))

theorem TW0_apply (b : Fin 8) (r : Fin 2048) (f : Fin 6144) : TW cw 0 slices_S3x6144_S1x6144_0_0 (ix3 b r f) = cw (ix3 0 0 f) := by
  pointwise!
theorem TW1_apply (b : Fin 8) (r : Fin 2048) (f : Fin 6144) : TW cw 1 slices_S3x6144_S1x6144_1_0 (ix3 b r f) = cw (ix3 0 1 f) := by
  pointwise!
theorem TW2_apply (b : Fin 8) (r : Fin 2048) (f : Fin 6144) : TW cw 2 slices_S3x6144_S1x6144_2_0 (ix3 b r f) = cw (ix3 0 2 f) := by
  pointwise!

/-- The operations' term for the convolution, of its three weight rows' arrays and the padded gate. -/
abbrev TU (W0 W1 W2 : FVec Ideal S8x2048x6144 .f32) (X : FVec Ideal S8x2050x6144 .f32) : FVec Ideal S8x2048x6144 .f32 :=
  addf (broadcastInDim S8x2048x6144 ![0, 1, 2] bcast_S1x1x6144_S8x2048x6144_0_1_2 (broadcastInDim S1x1x6144 ![2] bcast_S6144_S1x1x6144_2
      (shapeCast S6144 cb shapeCasts_S1x6144_S6144)))
    (addf (addf (addf (broadcastInDim S8x2048x6144 ![] bcast_S_S8x2048x6144 (constant (F := Ideal) S_ .f32 0x00000000#32))
        (mulf W0 (extractStridedSlice S8x2048x6144 ![0, 0, 0] X slices_S8x2050x6144_S8x2048x6144_0_0_0)))
        (mulf W1 (extractStridedSlice S8x2048x6144 ![0, 1, 0] X slices_S8x2050x6144_S8x2048x6144_0_1_0)))
      (mulf W2 (extractStridedSlice S8x2048x6144 ![0, 2, 0] X slices_S8x2050x6144_S8x2048x6144_0_2_0)))

theorem TU_apply (W0 W1 W2 : FVec Ideal S8x2048x6144 .f32) (X : FVec Ideal S8x2050x6144 .f32) (b : Fin 8) (r : Fin 2048) (f : Fin 6144) :
    TU cb W0 W1 W2 X (ix3 b r f) = conv (cb (ix2 0 f)) (W0 (ix3 b r f)) (W1 (ix3 b r f)) (W2 (ix3 b r f))
      (X (ix3 b ⟨r.val, by omega⟩ f)) (X (ix3 b ⟨1 + r.val, by omega⟩ f)) (X (ix3 b ⟨2 + r.val, by omega⟩ f)) := by
  have e : TU cb W0 W1 W2 X (ix3 b r f) = cb (ix2 0 f) + (0 + W0 (ix3 b r f) * X (ix3 b ⟨r.val, by omega⟩ f)
      + W1 (ix3 b r f) * X (ix3 b ⟨1 + r.val, by omega⟩ f) + W2 (ix3 b r f) * X (ix3 b ⟨2 + r.val, by omega⟩ f)) := by
    pointwise!
  rw [e, conv, zero_add]
  ac_rfl

/-- The operations' term for the tanh approximation. -/
abbrev TL (u : FVec Ideal S8x2048x6144 .f32) : FVec Ideal S8x2048x6144 .f32 :=
  mulf u (mulf (broadcastInDim S8x2048x6144 ![] bcast_S_S8x2048x6144 (constant (F := Ideal) S_ .f32 0x3F000000#32))
    (addf (broadcastInDim S8x2048x6144 ![] bcast_S_S8x2048x6144 (constant (F := Ideal) S_ .f32 0x3F800000#32))
      (Host.tanh (mulf (broadcastInDim S8x2048x6144 ![] bcast_S_S8x2048x6144 (constant (F := Ideal) S_ .f32 0x3F4C422A#32))
        (addf u (mulf (broadcastInDim S8x2048x6144 ![] bcast_S_S8x2048x6144 (constant (F := Ideal) S_ .f32 0x3D372713#32))
          (mulf (mulf u u) u)))))))

theorem TL_apply (u : FVec Ideal S8x2048x6144 .f32) (i : S8x2048x6144.Idx) : TL u i = gelu (u i) := by
  unfold gelu
  pointwise!

/-- The operations' term for the residual stream, of the hidden array. -/
abbrev TO (H : FVec Ideal S8x2048x6144 .f32) : FVec Ideal S8x2048x2048 .f32 :=
  addf x (Host.dotGeneral dot_S8x2048x6144_S6144x2048_S8x2048x2048_2_0_01_1_n_n none H (shapeCast S6144x2048 wd shapeCasts_S1x6144x2048_S6144x2048))

theorem TO_apply (A B : FVec Ideal S8x2048x6144 .f32) (b : Fin 8) (r j : Fin 2048) :
    TO x wd (mulf A B) (ix3 b r j) = x (ix3 b r j) + ∑ f : Fin 6144, (A (ix3 b r f) * B (ix3 b r f)) * wd (ix3 0 f j) := by
  pointwise!

/-- The operations' term for the normalised stream. -/
abbrev TN (X : FVec Ideal S8x2048x2048 .f32) : FVec Ideal S8x2048x2048 .f32 :=
  mulf (mulf X (broadcastInDim S8x2048x2048 ![0, 1, 2] bcast_S8x2048x1_S8x2048x2048_0_1_2
      (Host.rsqrt (addf (Host.divf (broadcastInDim S8x2048x1 ![0, 1] bcast_S8x2048_S8x2048x1_0_1
          (Host.reduceAdd (mulf X X) (constant S_ .f32 0x00000000#32) reducesTo_S8x2048x2048_S8x2048_d2 h_S_))
          (broadcastInDim S8x2048x1 ![] bcast_S_S8x2048x1 (constant S_ .f32 0x45000000#32)))
        (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 nf))

theorem TN_apply (X : FVec Ideal S8x2048x2048 .f32) (b : Fin 8) (r j : Fin 2048) :
    TN nf X (ix3 b r j) = nrm (fun k => X (ix3 b r k)) (nf (ix1 j)) j := by
  unfold nrm
  pointwise!

/-- The operations' term for the second result. -/
abbrev TF (g : FVec Ideal S8x2048x6144 .f32) : FVec Ideal S8x4x2x6144 .f32 :=
  extractStridedSlice S8x4x2x6144 ![0, 0, 510, 0] (shapeCast S8x4x512x6144 g shapeCasts_S8x2048x6144_S8x4x512x6144) slices_S8x4x512x6144_S8x4x2x6144_0_0_510_0

theorem TF_apply (g : FVec Ideal S8x2048x6144 .f32) (b : Fin 8) (t : Fin 4) (q : Fin 2) (f : Fin 6144) :
    TF g (ix4 b t q f) = g (ix3 b ⟨t.val * 512 + (510 + q.val), by omega⟩ f) := by
  pointwise!

/-- The convolution's term at an index. -/
theorem TU_eq (b : Fin 8) (r : Fin 2048) (f : Fin 6144) :
    TU cb (TW cw 0 slices_S3x6144_S1x6144_0_0) (TW cw 1 slices_S3x6144_S1x6144_1_0) (TW cw 2 slices_S3x6144_S1x6144_2_0) (TX (TG h wg)) (ix3 b r f)
      = U h wg cw cb b r f := by
  rw [TU_apply, TW0_apply, TW1_apply, TW2_apply, TX_past h wg 2 b r f _ rfl, TX_past h wg 1 b r f _ (by show 1 + r.val + 1 = _; omega),
    TX_past h wg 0 b r f _ (by show 2 + r.val + 0 = _; omega)]
  rfl

/-- The operations' term for the convolution, of the arguments. -/
abbrev TC : FVec Ideal S8x2048x6144 .f32 :=
  TU cb (TW cw 0 slices_S3x6144_S1x6144_0_0) (TW cw 1 slices_S3x6144_S1x6144_1_0) (TW cw 2 slices_S3x6144_S1x6144_2_0) (TX (TG h wg))

/-- The residual stream's term at an index. -/
theorem TO_eq (b : Fin 8) (r j : Fin 2048) :
    TO x wd (mulf (TL (TC h wg cw cb)) (TG h wu)) (ix3 b r j) = out x h wg wu cw cb wd b r j := by
  rw [TO_apply]
  unfold out hid
  simp only [TL_apply, TU_eq, TG_apply]

/-- The first result's term is `Y`. -/
theorem TN_eq : TN nf (TO x wd (mulf (TL (TC h wg cw cb)) (TG h wu))) = Y x h wg wu cw cb wd nf := by
  funext i
  idx_vars i
  rw [TN_apply]
  simp only [TO_eq]
  rfl

/-- The second result's term is `FC`. -/
theorem TF_eq : TF (TG h wg) = FC h wg := by
  funext i
  idx_vars i
  rw [TF_apply, TG_apply]
  rfl

variable (m : (ℓ : Loc nD τ sig) → Buf (Elt Ideal) ℓ) (ρ : Dev nD → PrngReg)

/-- The reference's first result is that term of its arguments. -/
theorem res0 (c : Dev nD) : res_main_v64 m c = TN (m ((c.tc : Thread nD τ).loc main_arg7)) (TO (m ((c.tc : Thread nD τ).loc main_arg0)) (m ((c.tc : Thread nD τ).loc main_arg6))
    (mulf (TL (TC (m ((c.tc : Thread nD τ).loc main_arg1)) (m ((c.tc : Thread nD τ).loc main_arg2)) (m ((c.tc : Thread nD τ).loc main_arg4)) (m ((c.tc : Thread nD τ).loc main_arg5))))
      (TG (m ((c.tc : Thread nD τ).loc main_arg1)) (m ((c.tc : Thread nD τ).loc main_arg3))))) := rfl

/-- The reference runs, its first result `Y` and its second `FC` of its arguments, the arguments unchanged. -/
theorem ref_run : θ_run defs (onTc (τ := τ) (main (F := Ideal))) ⟨m, fun _ => 0, ρ⟩ fun r => ∀ c : Dev nD,
      r.2.mem ((c.tc : Thread nD τ).loc main_v64) = Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v66) = FC (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((res0 m c).trans (TN_eq _ _ _ _ _ _ _ _)), (h c).2.1.trans (TF_eq _ _), (h c).2.2⟩) (run m ρ)

end Cert.Proof.Ffn

end
-- ==== Proof.Ffn.Claim.lean ====
/- The feed-forward call's claim: from equal arguments, on the extended reals, the kernel and the reference end with the
   same normalised rows and the same last gate rows. -/
module

public import proofs.«01_k».proof.Defs
public import proofs.«01_k».proof.Proof.Ffn.Value
public import proofs.«01_k».proof.Proof.Ffn.Ref

@[expose] public section

noncomputable section

namespace Cert.Proof.Ffn

open Idealize.ShloMosaic Idealize.ShloMosaic.TcCoe Idealize.SL.Sem

/-- The kernel's two results after its run are `val0` and `val1`, the reference's `Y` and `FC`, of equal arguments. -/
theorem algebraic : Cert.algebraic_KernelIdeal_ReferenceIdeal := by
  intro m g m' g' _ hargs
  refine ⟨fun c => val0 m c, fun c => val1 m c, ?_, ?_⟩
  · exact (θ_run Cert.KernelIdeal.defs _ _).mono (fun r h c => ⟨((h.1 c).1 9).trans (final9 m c), ((h.1 c).1 10).trans (final10 m c), h.2.1 c⟩)
      (θ_run_and (run_main m g) (frame m g))
  · refine (θ_run Cert.ReferenceIdeal.defs _ _).mono (fun r h c => ⟨(h c).1.trans ?_, (h c).2.1.trans ?_, (h c).2.2⟩)
      (ref_run m' g')
    · obtain ⟨h0, h1, h2, h3, h4, h5, h6, h7⟩ := hargs c
      rw [h0, h1, h2, h3, h4, h5, h6, h7]
    · obtain ⟨h0, h1, h2, h3, h4, h5, h6, h7⟩ := hargs c
      rw [h1, h2]

end Cert.Proof.Ffn

end
-- ==== Proof.Ffn.Same.lean ====
/- The feed-forward kernel and the kernel to be proved about are one program: on machine words their definitions are equal,
   so a run of the one is a run of the other. -/
module

public import proofs.«01_k».proof.Defs
public import proofs.«01_k».proof.Proof.Gen.Kernel.Frame
public import proofs.«01_k».proof.Proof.Ffn.Frame

@[expose] public section

set_option maxRecDepth 16384
set_option maxHeartbeats 4000000

noncomputable section

namespace Cert.Proof.Ffn

open Idealize Idealize.ShloMosaic

attribute [local instance] Cert.Kernel.Gen.facts Cert.KernelIdeal.Gen.facts

/-- The two bodies are equal. -/
theorem body_eq : @Cert.Kernel.cc0_ffn Bits _ _ = @Cert.KernelIdeal.cc0_ffn Bits _ _ := by
  delta Cert.Kernel.cc0_ffn Cert.KernelIdeal.cc0_ffn
  rfl

/-- So the two cores' definitions are. -/
theorem core_eq : (Cert.Kernel.defs₀ (F := Bits)) = (Cert.KernelIdeal.defs₀ (F := Bits)) := by
  delta Cert.Kernel.defs₀ Cert.KernelIdeal.defs₀
  refine congrArg Defs.onTc ?_
  funext l x
  match l, x with
  | 0, (t, s) =>
    dsimp only
    rw [body_eq]
    rfl

/-- And the two programs'. -/
theorem defs_eq : (Cert.Kernel.defs (F := Bits)) = (Cert.KernelIdeal.defs (F := Bits)) := by
  delta Cert.Kernel.defs Cert.KernelIdeal.defs
  rw [core_eq]
  rfl

/-- The kernel's run on machine words ends with the arguments unchanged and every counter zero. -/
theorem quiescent : Cert.quiescent_Kernel := by
  intro m g _
  rw [defs_eq]
  exact frame (F := Bits) m g

end Cert.Proof.Ffn

end
-- ==== Proof.Inproj.Body.lean ====
module

public import proofs.«01_k».proof.Proof.Gen.Kernel3Ideal.Frame
public import proofs.«01_k».proof.Proof.Gen.Kernel3Ideal.Skeleton
public import Idealize.ShloMosaic.Lib.VecWindow
public import Idealize.ShloMosaic.Lib.WritesUnit
public import Idealize.ShloMosaic.Lib.Pipeline.Value

@[expose] public section

set_option maxRecDepth 16384

noncomputable section

namespace Cert.Proof.Inproj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its row block's nine column blocks. -/
abbrev first (i : grid0.Coords) : Prop := (Scalar.cmpi .ne (Scalar.extui (Scalar.cmpi .eq (BitVec.ofNat 32 (i 1).val) 0#32)) 0#32) = 1#1
/-- The point computes the column block that holds the first two key-value caches. -/
abbrev seven (i : grid0.Coords) : Prop := k0_cond2 i = 1#1
/-- The point computes the column block that holds the last key-value cache. -/
abbrev eight (i : grid0.Coords) : Prop := k0_cond4 i = 1#1

/-- The normalised rows after a point: computed at a row block's first point, kept after it. -/
def hNew (i : grid0.Coords) (x0 : Vec F S1024x2048 .f32) (x1 : Vec F S1x2048 .f32) (h : Vec F S1024x2048 .bf16) : Vec F S1024x2048 .bf16 :=
  if first i then k0_pay1 x0 x1 else h

/-- Rows 0, 0+4, 0+8, … of a cache's block. -/
abbrev strip0 : Rect S4096x128 := ⟨(⟨![0, 0], S1024x128.size, ![4, 1], inb_S4096x128_S1024x128_0_0_s_4_1⟩ : LoadRect S4096x128), spos_4_1⟩
/-- Rows 1, 1+4, 1+8, … of a cache's block. -/
abbrev strip1 : Rect S4096x128 := ⟨(⟨![1, 0], S1024x128.size, ![4, 1], inb_S4096x128_S1024x128_1_0_s_4_1⟩ : LoadRect S4096x128), spos_4_1⟩
/-- Rows 2, 2+4, 2+8, … of a cache's block. -/
abbrev strip2 : Rect S4096x128 := ⟨(⟨![2, 0], S1024x128.size, ![4, 1], inb_S4096x128_S1024x128_2_0_s_4_1⟩ : LoadRect S4096x128), spos_4_1⟩
/-- Rows 3, 3+4, 3+8, … of a cache's block. -/
abbrev strip3 : Rect S4096x128 := ⟨(⟨![3, 0], S1024x128.size, ![4, 1], inb_S4096x128_S1024x128_3_0_s_4_1⟩ : LoadRect S4096x128), spos_4_1⟩
/-- Columns 0 to 127 of a block of the product. -/
abbrev cols0 (z : Vec F S1024x1024 .f32) : Vec F S1024x128 .f32 := View.ld (Val := Elt F) z (Rect.unit (s := S1024x1024) ![0, 0] S1024x128.size inb_S1024x1024_S1024x128_0_0)
/-- Columns 128 to 255 of a block of the product. -/
abbrev cols128 (z : Vec F S1024x1024 .f32) : Vec F S1024x128 .f32 := View.ld (Val := Elt F) z (Rect.unit (s := S1024x1024) ![0, 128] S1024x128.size inb_S1024x1024_S1024x128_0_128)
/-- Columns 256 to 383 of a block of the product. -/
abbrev cols256 (z : Vec F S1024x1024 .f32) : Vec F S1024x128 .f32 := View.ld (Val := Elt F) z (Rect.unit (s := S1024x1024) ![0, 256] S1024x128.size inb_S1024x1024_S1024x128_0_256)
/-- Columns 384 to 511 of a block of the product. -/
abbrev cols384 (z : Vec F S1024x1024 .f32) : Vec F S1024x128 .f32 := View.ld (Val := Elt F) z (Rect.unit (s := S1024x1024) ![0, 384] S1024x128.size inb_S1024x1024_S1024x128_0_384)
/-- Columns 512 to 639 of a block of the product. -/
abbrev cols512 (z : Vec F S1024x1024 .f32) : Vec F S1024x128 .f32 := View.ld (Val := Elt F) z (Rect.unit (s := S1024x1024) ![0, 512] S1024x128.size inb_S1024x1024_S1024x128_0_512)
/-- Columns 640 to 767 of a block of the product. -/
abbrev cols640 (z : Vec F S1024x1024 .f32) : Vec F S1024x128 .f32 := View.ld (Val := Elt F) z (Rect.unit (s := S1024x1024) ![0, 640] S1024x128.size inb_S1024x1024_S1024x128_0_640)
/-- Columns 768 to 895 of a block of the product. -/
abbrev cols768 (z : Vec F S1024x1024 .f32) : Vec F S1024x128 .f32 := View.ld (Val := Elt F) z (Rect.unit (s := S1024x1024) ![0, 768] S1024x128.size inb_S1024x1024_S1024x128_0_768)
/-- Columns 896 to 1023 of a block of the product. -/
abbrev cols896 (z : Vec F S1024x1024 .f32) : Vec F S1024x128 .f32 := View.ld (Val := Elt F) z (Rect.unit (s := S1024x1024) ![0, 896] S1024x128.size inb_S1024x1024_S1024x128_0_896)

/-- The stores into the first cache's block, last first. -/
abbrev pieces4 (z : Vec F S1024x1024 .f32) : List (View.Piece (Elt F) S4096x128 .f32) :=
  [⟨strip3, k0_pay6 (cols384 z)⟩,
   ⟨strip2, k0_pay5 (cols256 z)⟩,
   ⟨strip1, k0_pay4 (cols128 z)⟩,
   ⟨strip0, k0_pay3 (cols0 z)⟩]
/-- The first cache's block as those stores leave it. -/
def cache4 (z : Vec F S1024x1024 .f32) : Vec F S4096x128 .f32 := View.canon (pieces4 z)

/-- The stores into the second cache's block, last first. -/
abbrev pieces5 (z : Vec F S1024x1024 .f32) : List (View.Piece (Elt F) S4096x128 .f32) :=
  [⟨strip3, k0_pay10 (cols896 z)⟩,
   ⟨strip2, k0_pay9 (cols768 z)⟩,
   ⟨strip1, k0_pay8 (cols640 z)⟩,
   ⟨strip0, k0_pay7 (cols512 z)⟩]
/-- The second cache's block as those stores leave it. -/
def cache5 (z : Vec F S1024x1024 .f32) : Vec F S4096x128 .f32 := View.canon (pieces5 z)

/-- The stores into the third cache's block, last first. -/
abbrev pieces6 (z : Vec F S1024x1024 .f32) : List (View.Piece (Elt F) S4096x128 .f32) :=
  [⟨strip3, k0_pay14 (cols384 z)⟩,
   ⟨strip2, k0_pay13 (cols256 z)⟩,
   ⟨strip1, k0_pay12 (cols128 z)⟩,
   ⟨strip0, k0_pay11 (cols0 z)⟩]
/-- The third cache's block as those stores leave it. -/
def cache6 (z : Vec F S1024x1024 .f32) : Vec F S4096x128 .f32 := View.canon (pieces6 z)

/-- Every row of a cache's block is in one of the four strips. -/
theorem covered (y : S4096x128.Idx) : y ∈ strip3.set ∨ y ∈ strip2.set ∨ y ∈ strip1.set ∨ y ∈ strip0.set := by
  have h0 : (y 0).val < 4096 := (y 0).isLt
  have h1 : (y 1).val < 128 := (y 1).isLt
  have key : ∀ g : ℕ, (y 0).val % 4 = g → ∀ a : Fin 2, ∃ j < S1024x128.size a, (y a).val = ![g, 0] a + ![4, 1] a * j := by
    intro g hg a
    match a with
    | ⟨0, _⟩ => exact ⟨(y 0).val / 4, by show _ < 1024; omega, by show (y 0).val = g + 4 * ((y 0).val / 4); omega⟩
    | ⟨1, _⟩ => exact ⟨(y 1).val, h1, by show (y 1).val = 0 + 1 * (y 1).val; omega⟩
  have : (y 0).val % 4 = 3 ∨ (y 0).val % 4 = 2 ∨ (y 0).val % 4 = 1 ∨ (y 0).val % 4 = 0 := by omega
  rcases this with h | h | h | h
  · exact Or.inl ((LoadRect.mem_set _).mpr (key 3 h))
  · exact Or.inr (Or.inl ((LoadRect.mem_set _).mpr (key 2 h)))
  · exact Or.inr (Or.inr (Or.inl ((LoadRect.mem_set _).mpr (key 1 h))))
  · exact Or.inr (Or.inr (Or.inr ((LoadRect.mem_set _).mpr (key 0 h))))

/-- So four stores, one per strip, decide the whole block. -/
theorem cover (w3 w2 w1 w0 : Vec F S1024x128 .f32) (y : S4096x128.Idx) :
    ∃ p ∈ ([⟨strip3, w3⟩, ⟨strip2, w2⟩, ⟨strip1, w1⟩, ⟨strip0, w0⟩] : List (View.Piece (Elt F) S4096x128 .f32)), y ∈ p.1.set := by
  rcases covered y with h | h | h | h
  · exact ⟨_, List.mem_cons_self, h⟩
  · exact ⟨_, List.mem_cons_of_mem _ List.mem_cons_self, h⟩
  · exact ⟨_, List.mem_cons_of_mem _ (List.mem_cons_of_mem _ List.mem_cons_self), h⟩
  · exact ⟨_, List.mem_cons_of_mem _ (List.mem_cons_of_mem _ (List.mem_cons_of_mem _ List.mem_cons_self)), h⟩

theorem off_zero : (![0, 0] : Fin 2 → ℕ) = fun _ => 0 := by funext a; match a with | ⟨0, _⟩ => rfl | ⟨1, _⟩ => rfl

/-- A load of columns of the block just stored whole reads the stored block's columns. -/
theorem cols_stored (v : View sig .tc .vmem S1024x1024 .f32) (w : Vec F S1024x1024 .f32) (r : Rect S1024x1024) :
    v.readCov (Val := Elt F) [⟨Rect.unit (s := S1024x1024) ![0, 0] S1024x1024.size inb_S1024x1024_S1024x1024_0_0, w⟩] r.toLoadRect = View.ld (Val := Elt F) w r := by
  rw [View.readCov_eq_canon', View.canon_unit_zero off_zero]

theorem cache4_stored (v : View sig .tc .vmem S1024x1024 .f32) (w z : Vec F S1024x1024 .f32) (h : w = z) :
    View.canon [(⟨strip3, k0_pay6 (v.readCov (Val := Elt F) [⟨Rect.unit (s := S1024x1024) ![0, 0] S1024x1024.size inb_S1024x1024_S1024x1024_0_0, w⟩] (Rect.unit (s := S1024x1024) ![0, 384] S1024x128.size inb_S1024x1024_S1024x128_0_384).toLoadRect)⟩ : View.Piece (Elt F) S4096x128 .f32),
      (⟨strip2, k0_pay5 (v.readCov (Val := Elt F) [⟨Rect.unit (s := S1024x1024) ![0, 0] S1024x1024.size inb_S1024x1024_S1024x1024_0_0, w⟩] (Rect.unit (s := S1024x1024) ![0, 256] S1024x128.size inb_S1024x1024_S1024x128_0_256).toLoadRect)⟩ : View.Piece (Elt F) S4096x128 .f32),
      (⟨strip1, k0_pay4 (v.readCov (Val := Elt F) [⟨Rect.unit (s := S1024x1024) ![0, 0] S1024x1024.size inb_S1024x1024_S1024x1024_0_0, w⟩] (Rect.unit (s := S1024x1024) ![0, 128] S1024x128.size inb_S1024x1024_S1024x128_0_128).toLoadRect)⟩ : View.Piece (Elt F) S4096x128 .f32),
      (⟨strip0, k0_pay3 (v.readCov (Val := Elt F) [⟨Rect.unit (s := S1024x1024) ![0, 0] S1024x1024.size inb_S1024x1024_S1024x1024_0_0, w⟩] (Rect.unit (s := S1024x1024) ![0, 0] S1024x128.size inb_S1024x1024_S1024x128_0_0).toLoadRect)⟩ : View.Piece (Elt F) S4096x128 .f32)] = cache4 z := by
  subst h
  unfold cache4 pieces4
  rw [cols_stored, cols_stored, cols_stored, cols_stored]

theorem cache5_stored (v : View sig .tc .vmem S1024x1024 .f32) (w z : Vec F S1024x1024 .f32) (h : w = z) :
    View.canon [(⟨strip3, k0_pay10 (v.readCov (Val := Elt F) [⟨Rect.unit (s := S1024x1024) ![0, 0] S1024x1024.size inb_S1024x1024_S1024x1024_0_0, w⟩] (Rect.unit (s := S1024x1024) ![0, 896] S1024x128.size inb_S1024x1024_S1024x128_0_896).toLoadRect)⟩ : View.Piece (Elt F) S4096x128 .f32),
      (⟨strip2, k0_pay9 (v.readCov (Val := Elt F) [⟨Rect.unit (s := S1024x1024) ![0, 0] S1024x1024.size inb_S1024x1024_S1024x1024_0_0, w⟩] (Rect.unit (s := S1024x1024) ![0, 768] S1024x128.size inb_S1024x1024_S1024x128_0_768).toLoadRect)⟩ : View.Piece (Elt F) S4096x128 .f32),
      (⟨strip1, k0_pay8 (v.readCov (Val := Elt F) [⟨Rect.unit (s := S1024x1024) ![0, 0] S1024x1024.size inb_S1024x1024_S1024x1024_0_0, w⟩] (Rect.unit (s := S1024x1024) ![0, 640] S1024x128.size inb_S1024x1024_S1024x128_0_640).toLoadRect)⟩ : View.Piece (Elt F) S4096x128 .f32),
      (⟨strip0, k0_pay7 (v.readCov (Val := Elt F) [⟨Rect.unit (s := S1024x1024) ![0, 0] S1024x1024.size inb_S1024x1024_S1024x1024_0_0, w⟩] (Rect.unit (s := S1024x1024) ![0, 512] S1024x128.size inb_S1024x1024_S1024x128_0_512).toLoadRect)⟩ : View.Piece (Elt F) S4096x128 .f32)] = cache5 z := by
  subst h
  unfold cache5 pieces5
  rw [cols_stored, cols_stored, cols_stored, cols_stored]

theorem cache6_stored (v : View sig .tc .vmem S1024x1024 .f32) (w z : Vec F S1024x1024 .f32) (h : w = z) :
    View.canon [(⟨strip3, k0_pay14 (v.readCov (Val := Elt F) [⟨Rect.unit (s := S1024x1024) ![0, 0] S1024x1024.size inb_S1024x1024_S1024x1024_0_0, w⟩] (Rect.unit (s := S1024x1024) ![0, 384] S1024x128.size inb_S1024x1024_S1024x128_0_384).toLoadRect)⟩ : View.Piece (Elt F) S4096x128 .f32),
      (⟨strip2, k0_pay13 (v.readCov (Val := Elt F) [⟨Rect.unit (s := S1024x1024) ![0, 0] S1024x1024.size inb_S1024x1024_S1024x1024_0_0, w⟩] (Rect.unit (s := S1024x1024) ![0, 256] S1024x128.size inb_S1024x1024_S1024x128_0_256).toLoadRect)⟩ : View.Piece (Elt F) S4096x128 .f32),
      (⟨strip1, k0_pay12 (v.readCov (Val := Elt F) [⟨Rect.unit (s := S1024x1024) ![0, 0] S1024x1024.size inb_S1024x1024_S1024x1024_0_0, w⟩] (Rect.unit (s := S1024x1024) ![0, 128] S1024x128.size inb_S1024x1024_S1024x128_0_128).toLoadRect)⟩ : View.Piece (Elt F) S4096x128 .f32),
      (⟨strip0, k0_pay11 (v.readCov (Val := Elt F) [⟨Rect.unit (s := S1024x1024) ![0, 0] S1024x1024.size inb_S1024x1024_S1024x1024_0_0, w⟩] (Rect.unit (s := S1024x1024) ![0, 0] S1024x128.size inb_S1024x1024_S1024x128_0_0).toLoadRect)⟩ : View.Piece (Elt F) S4096x128 .f32)] = cache6 z := by
  subst h
  unfold cache6 pieces6
  rw [cols_stored, cols_stored, cols_stored, cols_stored]

set_option maxHeartbeats 8000000 in
/-- What the kernel's body does at a point, from what its buffers hold. -/
theorem run (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x2048 .bf16) (harg9 : arg9.IsWhole)
    (x0 : Vec F S1024x2048 .f32) (x1 : Vec F S1x2048 .f32) (x2 : Vec F S2048x1024 .bf16) (y4 y5 y6 : Vec F S4096x128 .f32) (h : Vec F S1024x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y4 ∗ owns (c : Thread nD τ) arg7 fullShare y5 ∗ owns (c : Thread nD τ) arg8 fullShare y6 ∗ owns (c : Thread nD τ) arg9 fullShare h
            ∗ (iprop(owns (c : Thread nD τ) arg2 fullShare x0 ∗ owns (c : Thread nD τ) arg3 fullShare x1 ∗ owns (c : Thread nD τ) arg4 fullShare x2 ∗ owns (c : Thread nD τ) arg5 fullShare (k0_pay2 (hNew i x0 x1 h) x2) ∗ owns (c : Thread nD τ) arg6 fullShare (if seven i then cache4 (k0_pay2 (hNew i x0 x1 h) x2) else y4) ∗ owns (c : Thread nD τ) arg7 fullShare (if seven i then cache5 (k0_pay2 (hNew i x0 x1 h) x2) else y5) ∗ owns (c : Thread nD τ) arg8 fullShare (if eight i then cache6 (k0_pay2 (hNew i x0 x1 h) x2) else y6) ∗ owns (c : Thread nD τ) arg9 fullShare (hNew i x0 x1 h)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K := by
    by_cases hc0 : first i <;> by_cases hc2 : seven i <;> by_cases hc4 : eight i
    all_goals
      have hc3 := hc2
      rw [show seven i = (k0_cond3 i = 1#1) from rfl] at hc3
      simp only [cc0_inproj_eq_skeleton]; unfold cc0_inproj_skel
      unfold owns
      iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fs, %hfs, HS⟩, Hk⟩
      sl_exec (disch := first | sl_exact hc0 | sl_exact hc2 | sl_exact hc3 | sl_exact hc4)
      sl_step
      iapply Hk
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      have e0 := (View.readAt_full arg2.view f0 inb_S1024x2048_S1024x2048_0_0).trans hf0
      have e1 := (View.readAt_full arg3.view f1 inb_S1x2048_S1x2048_0_0).trans hf1
      have e2 := (View.readAt_full arg4.view f2 inb_S2048x1024_S2048x1024_0_0).trans hf2
      have es := (View.readAt_full arg9.view fs inb_S1024x2048_S1024x2048_0_0).trans hfs
      isplitl [H3]
      · iexists _; isplitr; swap; · iexact H3
        ipureintro
        refine (View.read_writes_full _ _ _ _ _).trans ?_
        sl_unfold_words
        simp only [hNew]
        first | simp only [if_pos hc0] | simp only [if_neg hc0]
        simp only [View.readAt_eq_ld, hf0, hf1, hf2, hfs] at e0 e1 e2 es ⊢
        simp only [View.readCov_cons_toLoadRect, e0, e1, e2, es]
      isplitl [H4]
      · iexists _; isplitr; swap; · iexact H4
        ipureintro
        first
        | rw [if_neg hc2]; exact hf4
        | rw [if_pos hc2]
          refine (View.read_writes_eq_canon _ _ _ (cover _ _ _ _)).trans (cache4_stored arg5.view _ _ ?_)
          sl_unfold_words
          simp only [hNew]
          first | simp only [if_pos hc0] | simp only [if_neg hc0]
          simp only [View.readAt_eq_ld, hf0, hf1, hf2, hfs] at e0 e1 e2 es ⊢
          simp only [View.readCov_cons_toLoadRect, e0, e1, e2, es]
      isplitl [H5]
      · iexists _; isplitr; swap; · iexact H5
        ipureintro
        first
        | rw [if_neg hc2]; exact hf5
        | rw [if_pos hc2]
          refine (View.read_writes_eq_canon _ _ _ (cover _ _ _ _)).trans (cache5_stored arg5.view _ _ ?_)
          sl_unfold_words
          simp only [hNew]
          first | simp only [if_pos hc0] | simp only [if_neg hc0]
          simp only [View.readAt_eq_ld, hf0, hf1, hf2, hfs] at e0 e1 e2 es ⊢
          simp only [View.readCov_cons_toLoadRect, e0, e1, e2, es]
      isplitl [H6]
      · iexists _; isplitr; swap; · iexact H6
        ipureintro
        first
        | rw [if_neg hc4]; exact hf6
        | rw [if_pos hc4]
          refine (View.read_writes_eq_canon _ _ _ (cover _ _ _ _)).trans (cache6_stored arg5.view _ _ ?_)
          sl_unfold_words
          simp only [hNew]
          first | simp only [if_pos hc0] | simp only [if_neg hc0]
          simp only [View.readAt_eq_ld, hf0, hf1, hf2, hfs] at e0 e1 e2 es ⊢
          simp only [View.readCov_cons_toLoadRect, e0, e1, e2, es]
      iexists _; isplitr; swap; · iexact HS
      ipureintro
      first
      | rw [hNew, if_neg hc0]; exact hfs
      | refine (View.read_writes_full _ _ _ _ _).trans ?_
        sl_unfold_words
        simp only [hNew]
        first | simp only [if_pos hc0] | simp only [if_neg hc0]
        simp only [View.readAt_eq_ld, hf0, hf1, hf2, hfs] at e0 e1 e2 es ⊢
        simp only [View.readCov_cons_toLoadRect, e0, e1, e2, es]

end Cert.Proof.Inproj

end
-- ==== Proof.Inproj.Spec.lean ====
/- The input projection's four results, entry by entry, on the extended reals: a row of the input divided by its root mean
   square and weighted, times a column of the projection. -/
module

public import proofs.«01_k».proof.Proof.Merge.Spec
public import Idealize.ShloMosaic.Lib.Pointwise

@[expose] public section

set_option maxRecDepth 16384

noncomputable section

namespace Cert.Proof.Inproj

open Idealize.ShloMosaic Cert.Proof.Merge

abbrev Sx : Shape := ⟨2, ![16384, 2048]⟩
abbrev Sg : Shape := ⟨2, ![1, 2048]⟩
abbrev Sw : Shape := ⟨3, ![1, 2048, 8728]⟩
abbrev Sz : Shape := ⟨2, ![16384, 9216]⟩
abbrev Sk : Shape := ⟨2, ![65536, 128]⟩

variable (x : FVec Ideal Sx .f32) (g : FVec Ideal Sg .f32) (w : FVec Ideal Sw .f32)

/-- Entry `k` of normalised row `r`. -/
def hid (r : Fin 16384) (k : Fin 2048) : EReal := nrm (fun l => x (ix2 r l)) (g (ix2 0 k)) k

/-- Row `r` projected onto column `j` of the layer's projection. -/
def proj (r : Fin 16384) (j : Fin 8728) : EReal := ∑ k : Fin 2048, hid x g r k * w (ix3 0 k j)

/-- Entry `j` of a row of 8728 columns taken in the order of the first result: the recurrence's two bands, the merge's gates,
    the queries, the three caches, the attention's gates, and 488 zeros. -/
def reorder (z : Fin 8728 → EReal) (j : Fin 9216) : EReal :=
  if h0 : j.val < 2048 then z ⟨j.val, by omega⟩
  else if h1 : j.val < 6144 then z ⟨j.val + 2584, by omega⟩
  else if h2 : j.val < 8728 then z ⟨j.val - 4096, by omega⟩
  else 0

/-- A column of the reordered row that is a column of the row. -/
theorem reorder_of (z : Fin 8728 → EReal) (j : Fin 9216) (k : Fin 8728)
    (h : (j.val < 2048 ∧ k.val = j.val) ∨ (2048 ≤ j.val ∧ j.val < 6144 ∧ k.val = j.val + 2584) ∨ (6144 ≤ j.val ∧ j.val < 8728 ∧ j.val = k.val + 4096)) :
    reorder z j = z k := by
  have hk := k.isLt
  unfold reorder
  rcases h with ⟨h0, e⟩ | ⟨h0, h1, e⟩ | ⟨h0, h1, e⟩
  · rw [dif_pos h0]; exact congrArg z (Fin.ext e.symm)
  · rw [dif_neg (show ¬j.val < 2048 by omega), dif_pos h1]; exact congrArg z (Fin.ext e.symm)
  · rw [dif_neg (show ¬j.val < 2048 by omega), dif_neg (show ¬j.val < 6144 by omega), dif_pos h1]
    exact congrArg z (Fin.ext (show j.val - 4096 = k.val by omega))

/-- The last columns are zero. -/
theorem reorder_pad (z : Fin 8728 → EReal) (j : Fin 9216) (h : 8728 ≤ j.val) : reorder z j = 0 := by
  unfold reorder
  rw [dif_neg (show ¬j.val < 2048 by omega), dif_neg (show ¬j.val < 6144 by omega), dif_neg (show ¬j.val < 8728 by omega)]

/-- The first result. -/
def Z : FVec Ideal Sz .f32 := fun i => reorder (proj x g w (i 0)) (i 1)

/-- A cache: four rows of 128 for each row, from the projection's column `lo`. -/
def KV (lo : Fin 8217) : FVec Ideal Sk .f32 := fun i =>
  proj x g w ⟨(i 0).val / 4, by have h : (i 0).val < 65536 := (i 0).isLt; omega⟩
    ⟨lo.val + ((i 0).val % 4 * 128 + (i 1).val), by have h : (i 1).val < 128 := (i 1).isLt; omega⟩

end Cert.Proof.Inproj

end
-- ==== Proof.Inproj.Pay.lean ====
/- The input projection kernel's values entry by entry: the normalised rows, a block of the product, and the caches' blocks,
   whose row `4 a + b` holds 128 columns of the product's row `a`. -/
module

public import proofs.«01_k».proof.Proof.Inproj.Body
public import proofs.«01_k».proof.Proof.Inproj.Spec
public import Idealize.ShloMosaic.Lib.Pointwise
public import Idealize.ShloMosaic.Lib.Pipeline.ValueKit.Tiles

@[expose] public section

set_option maxRecDepth 16384

noncomputable section

namespace Cert.Proof.Inproj

open Cert.Kernel3Ideal Cert.Kernel3Ideal.Gen Idealize.ShloMosaic Idealize.ShloMosaic.TcCoe Cert.Proof.Merge

theorem pay1_apply (x0 : Vec Ideal S1024x2048 .f32) (x1 : Vec Ideal S1x2048 .f32) (p : Fin 1024) (k : Fin 2048) :
    k0_pay1 (F := Ideal) x0 x1 (ix2 p k) = nrm (fun l => x0 (ix2 p l)) (x1 (ix2 0 k)) k := by
  unfold nrm
  pointwise! [Gen.k0_pay1]

theorem pay2_apply (h : Vec Ideal S1024x2048 .bf16) (w : Vec Ideal S2048x1024 .bf16) (p : Fin 1024) (f : Fin 1024) :
    k0_pay2 (F := Ideal) h w (ix2 p f) = ∑ k : Fin 2048, h (ix2 p k) * w (ix2 k f) := by
  pointwise! [Gen.k0_pay2]

/-- A strip of a cache's block whose payload is 128 columns of the product's block. -/
theorem strip_at (z : Vec Ideal S1024x1024 .f32) (lo : ℕ) (hlo : lo ≤ 512) (g : ℕ) (hg : g < 4) (r : Rect S4096x128) (w : r.shape.Idx → Elt Ideal .f32)
    (i : S4096x128.Idx) (v : Elt Ideal .f32)
    (hv : ∀ a : Fin 1024, ∀ l : Fin 128, (i 0).val = g + 4 * a.val → (i 1).val = l.val → z (ix2 a ⟨lo + (g * 128 + l.val), by omega⟩) = v)
    (hr : ∀ x, ∃ a : Fin 1024, ∃ l : Fin 128, (r.emb x 0).val = g + 4 * a.val ∧ (r.emb x 1).val = l.val ∧ w x = z (ix2 a ⟨lo + (g * 128 + l.val), by omega⟩)) :
    View.RectAt i r w v := by
  intro x hx
  obtain ⟨a, l, h0, h1, e⟩ := hr x
  rw [hx] at h0 h1
  rw [e]
  exact hv a l h0 h1

/-- Four strips of columns `lo`, `lo + 128`, … of the product's block: row `4 a + b` of the cache's block holds columns
    `lo + 128 b …` of the product's row `a`. -/
theorem strips_apply (z : Vec Ideal S1024x1024 .f32) (lo : ℕ) (hlo : lo ≤ 512) (w3 w2 w1 w0 : Vec Ideal S1024x128 .f32)
    (h3 : ∀ (a : Fin 1024) (l : Fin 128), w3 (ix2 a l) = z (ix2 a ⟨lo + (3 * 128 + l.val), by omega⟩))
    (h2 : ∀ (a : Fin 1024) (l : Fin 128), w2 (ix2 a l) = z (ix2 a ⟨lo + (2 * 128 + l.val), by omega⟩))
    (h1 : ∀ (a : Fin 1024) (l : Fin 128), w1 (ix2 a l) = z (ix2 a ⟨lo + (1 * 128 + l.val), by omega⟩))
    (h0 : ∀ (a : Fin 1024) (l : Fin 128), w0 (ix2 a l) = z (ix2 a ⟨lo + (0 * 128 + l.val), by omega⟩))
    (q : Fin 4096) (l : Fin 128) :
    View.canon ([⟨strip3, w3⟩, ⟨strip2, w2⟩, ⟨strip1, w1⟩, ⟨strip0, w0⟩] : List (View.Piece (Elt Ideal) S4096x128 .f32)) (ix2 q l)
      = z (ix2 ⟨q.val / 4, by omega⟩ ⟨lo + (q.val % 4 * 128 + l.val), by omega⟩) := by
  have hv : ∀ g : ℕ, (hg : g < 4) → ∀ a : Fin 1024, ∀ l' : Fin 128, q.val = g + 4 * a.val → l.val = l'.val →
      z (ix2 a ⟨lo + (g * 128 + l'.val), by omega⟩) = z (ix2 ⟨q.val / 4, by omega⟩ ⟨lo + (q.val % 4 * 128 + l.val), by omega⟩) := by
    intro g hg a l' e0 e1
    rw [show a = ⟨q.val / 4, by omega⟩ from Fin.ext (show a.val = q.val / 4 by omega),
      show (⟨lo + (g * 128 + l'.val), by omega⟩ : Fin 1024) = ⟨lo + (q.val % 4 * 128 + l.val), by omega⟩ from
        Fin.ext (show lo + (g * 128 + l'.val) = lo + (q.val % 4 * 128 + l.val) by rw [e1, show q.val % 4 = g by omega])]
  refine View.canon_eq_of_allAt _ _ _ (cover w3 w2 w1 w0 _) (View.allAt_cons _ _ _ ?_ (View.allAt_cons _ _ _ ?_ (View.allAt_cons _ _ _ ?_ (View.allAt_cons _ _ _ ?_ (View.allAt_nil _ _)))))
  · refine strip_at z lo hlo 3 (by omega) strip3 w3 _ _ (hv 3 (by omega)) fun x => ?_
    obtain ⟨a, b, rfl⟩ : ∃ a b, x = ix2 a b := ⟨x 0, x 1, by funext i; match i with | ⟨0, _⟩ => rfl | ⟨1, _⟩ => rfl⟩
    exact ⟨a, b, rfl, (show 0 + 1 * b.val = b.val by omega), h3 a b⟩
  · refine strip_at z lo hlo 2 (by omega) strip2 w2 _ _ (hv 2 (by omega)) fun x => ?_
    obtain ⟨a, b, rfl⟩ : ∃ a b, x = ix2 a b := ⟨x 0, x 1, by funext i; match i with | ⟨0, _⟩ => rfl | ⟨1, _⟩ => rfl⟩
    exact ⟨a, b, rfl, (show 0 + 1 * b.val = b.val by omega), h2 a b⟩
  · refine strip_at z lo hlo 1 (by omega) strip1 w1 _ _ (hv 1 (by omega)) fun x => ?_
    obtain ⟨a, b, rfl⟩ : ∃ a b, x = ix2 a b := ⟨x 0, x 1, by funext i; match i with | ⟨0, _⟩ => rfl | ⟨1, _⟩ => rfl⟩
    exact ⟨a, b, rfl, (show 0 + 1 * b.val = b.val by omega), h1 a b⟩
  · refine strip_at z lo hlo 0 (by omega) strip0 w0 _ _ (hv 0 (by omega)) fun x => ?_
    obtain ⟨a, b, rfl⟩ : ∃ a b, x = ix2 a b := ⟨x 0, x 1, by funext i; match i with | ⟨0, _⟩ => rfl | ⟨1, _⟩ => rfl⟩
    exact ⟨a, b, rfl, (show 0 + 1 * b.val = b.val by omega), h0 a b⟩

/-- A load of 128 columns from column `lo` of the product's block. -/
theorem ld_apply (z : Vec Ideal S1024x1024 .f32) (lo : ℕ) (hlo : lo ≤ 896) (h : ∀ a, (![0, lo] : Fin 2 → ℕ) a + S1024x128.size a ≤ S1024x1024.size a) (a : Fin 1024) (l : Fin 128) (k : Fin 1024) (hk : k.val = lo + l.val) :
    View.ld (Val := Elt Ideal) z (Rect.unit (s := S1024x1024) ![0, lo] S1024x128.size h) (ix2 a l) = z (ix2 a k) := by
  refine congrArg z ?_
  funext i; apply Fin.ext
  match i with
  | ⟨0, _⟩ => show 0 + 1 * a.val = a.val; omega
  | ⟨1, _⟩ => show lo + 1 * l.val = k.val; omega

/-- A shape cast to the same shape changes no entry. -/
theorem same_apply (v : Vec Ideal S1024x128 .f32) (i : S1024x128.Idx) : shapeCast S1024x128 v shapeCasts_S1024x128_S1024x128 i = v i := by
  idx_vars i
  pointwise

theorem cache4_apply (z : Vec Ideal S1024x1024 .f32) (q : Fin 4096) (l : Fin 128) :
    cache4 z (ix2 q l) = z (ix2 ⟨q.val / 4, by omega⟩ ⟨0 + (q.val % 4 * 128 + l.val), by omega⟩) := by
  refine strips_apply z 0 (by omega) _ _ _ _ ?_ ?_ ?_ ?_ q l
  all_goals exact fun a l => (same_apply _ _).trans (ld_apply z _ (by omega) _ a l _ (by dsimp only; omega))
theorem cache5_apply (z : Vec Ideal S1024x1024 .f32) (q : Fin 4096) (l : Fin 128) :
    cache5 z (ix2 q l) = z (ix2 ⟨q.val / 4, by omega⟩ ⟨512 + (q.val % 4 * 128 + l.val), by omega⟩) := by
  refine strips_apply z 512 (by omega) _ _ _ _ ?_ ?_ ?_ ?_ q l
  all_goals exact fun a l => (same_apply _ _).trans (ld_apply z _ (by omega) _ a l _ (by dsimp only; omega))
theorem cache6_apply (z : Vec Ideal S1024x1024 .f32) (q : Fin 4096) (l : Fin 128) :
    cache6 z (ix2 q l) = z (ix2 ⟨q.val / 4, by omega⟩ ⟨0 + (q.val % 4 * 128 + l.val), by omega⟩) := by
  refine strips_apply z 0 (by omega) _ _ _ _ ?_ ?_ ?_ ?_ q l
  all_goals exact fun a l => (same_apply _ _).trans (ld_apply z _ (by omega) _ a l _ (by dsimp only; omega))

end Cert.Proof.Inproj

end
-- ==== Proof.Inproj.Host.lean ====
/- The arrays the input projection call is given: the projection's columns in the first result's order, 488 zero columns after
   them, and the norm's weights. -/
module

public import proofs.«01_k».proof.Proof.Gen.Kernel3Ideal.Frame
public import proofs.«01_k».proof.Proof.Inproj.Spec
public import Idealize.ShloMosaic.Lib.Pointwise
public import Idealize.ShloMosaic.Lib.Pipeline.Value
public import Idealize.ShloMosaic.Lib.Pipeline.FrameBody
public import Idealize.ShloMosaic.Lib.Claim

@[expose] public section

set_option maxRecDepth 16384

noncomputable section

namespace Cert.Proof.Inproj

open Cert.Kernel3Ideal Cert.Kernel3Ideal.Gen Idealize.ShloMosaic Idealize.ShloMosaic.TcCoe Cert.Proof.Merge

/-- The last band: 24 columns and 488 of a converted integer zero. -/
abbrev HP (z : FVec Ideal S2048x8728 .f32) : FVec Ideal S2048x512 .f32 :=
  pad S2048x512 ![0, 0] ![0, 488] ![0, 0] (extractStridedSlice S2048x24 ![0, 4608] z slices_S2048x8728_S2048x24_0_4608) (sitofp (F := Ideal) .f32 (constantI S_ 32 0#32)) pads_S2048x24_S2048x512_000_04880 h_S_

theorem HP_apply (z : FVec Ideal S2048x8728 .f32) (k : Fin 2048) (l : Fin 512) :
    HP z (ix2 k l) = if h : l.val < 24 then z (ix2 k ⟨l.val + 4608, by omega⟩) else 0 := by
  have e0 : FloatOps.sitofp (F := Ideal) FTy.f32 (0#32) = (0 : EReal) := by
    show (((0#32 : BitVec 32).toInt : ℝ) : EReal) = 0
    simp
  pointwise
  rw [e0]
  split_ifs
  · exact congrArg (fun c => z (ix2 k c)) (Fin.ext (Nat.add_comm _ _))
  · rfl

/-- The eight bands side by side, the last one given. -/
abbrev HC (z : FVec Ideal S2048x8728 .f32) (p : FVec Ideal S2048x512 .f32) : FVec Ideal S2048x9216 .f32 :=
  concatenate S2048x9216 1 [⟨S2048x1024, extractStridedSlice S2048x1024 ![0, 0] z slices_S2048x8728_S2048x1024_0_0⟩,
    ⟨S2048x1024, extractStridedSlice S2048x1024 ![0, 1024] z slices_S2048x8728_S2048x1024_0_1024⟩,
    ⟨S2048x4096, extractStridedSlice S2048x4096 ![0, 4632] z slices_S2048x8728_S2048x4096_0_4632⟩,
    ⟨S2048x1024, extractStridedSlice S2048x1024 ![0, 2048] z slices_S2048x8728_S2048x1024_0_2048⟩,
    ⟨S2048x512, extractStridedSlice S2048x512 ![0, 3072] z slices_S2048x8728_S2048x512_0_3072⟩,
    ⟨S2048x512, extractStridedSlice S2048x512 ![0, 3584] z slices_S2048x8728_S2048x512_0_3584⟩,
    ⟨S2048x512, extractStridedSlice S2048x512 ![0, 4096] z slices_S2048x8728_S2048x512_0_4096⟩,
    ⟨S2048x512, p⟩]
    concatenates_S2048x1024_S2048x1024_S2048x4096_S2048x1024_S2048x512_S2048x512_S2048x512_S2048x512_S2048x9216_d1

theorem HC_low (z : FVec Ideal S2048x8728 .f32) (p : FVec Ideal S2048x512 .f32) (k : Fin 2048) (j : Fin 9216) (h : j.val < 8704) :
    HC z p (ix2 k j) = reorder (fun l => z (ix2 k l)) j := by
  pointwise
  split_ifs
  all_goals first
    | refine (reorder_of (fun l => z (ix2 k l)) j _ ?_).symm; first | omega | (simp only []; omega)
    | exfalso; omega
    | exact (reorder_of (fun l => z (ix2 k l)) j ⟨j.val, by omega⟩ (Or.inl ⟨by omega, rfl⟩)).symm

theorem HC_high (z : FVec Ideal S2048x8728 .f32) (p : FVec Ideal S2048x512 .f32) (k : Fin 2048) (j : Fin 9216) (h : 8704 ≤ j.val) :
    HC z p (ix2 k j) = p (ix2 k ⟨j.val - 8704, by omega⟩) := by
  pointwise
  split_ifs
  all_goals first
    | exfalso; omega
    | exact congrArg (fun l => p (ix2 k l)) (Fin.ext (show j.val - 1024 - 1024 - 4096 - 1024 - 512 - 512 - 512 = j.val - 8704 by omega))

theorem HC_apply (z : FVec Ideal S2048x8728 .f32) (k : Fin 2048) (j : Fin 9216) : HC z (HP z) (ix2 k j) = reorder (fun l => z (ix2 k l)) j := by
  by_cases h : j.val < 8704
  · exact HC_low z _ k j h
  · rw [HC_high z _ k j (by omega), HP_apply]
    by_cases h' : j.val < 8728
    · rw [dif_pos (show (⟨j.val - 8704, by omega⟩ : Fin 512).val < 24 by show j.val - 8704 < 24; omega)]
      exact (reorder_of (fun l => z (ix2 k l)) j _ (Or.inr (Or.inr ⟨by omega, by omega, by show j.val = j.val - 8704 + 4608 + 4096; omega⟩))).symm
    · rw [dif_neg (show ¬(⟨j.val - 8704, by omega⟩ : Fin 512).val < 24 by show ¬(j.val - 8704 < 24); omega)]
      exact (reorder_pad _ _ (by omega)).symm

theorem castW_apply (w : FVec Ideal S1x2048x8728 .f32) (k : Fin 2048) (l : Fin 8728) :
    shapeCast S2048x8728 w shapeCasts_S1x2048x8728_S2048x8728 (ix2 k l) = w (ix3 0 k l) := by pointwise
theorem castG_apply (g : FVec Ideal S1x2048 .f32) (k : Fin 2048) :
    shapeCast S1x2048 (shapeCast S2048 g shapeCasts_S1x2048_S2048) shapeCasts_S2048_S1x2048 (ix2 0 k) = g (ix2 0 k) := by pointwise

variable (m : (ℓ : Loc nD τ sig) → Buf (Elt Ideal) ℓ)

/-- The weights' array: column `j` is column `j` of the reordered projection. -/
theorem V11 (c : Dev nD) (k : Fin 2048) (j : Fin 9216) :
    V m c main_v11 (ix2 k j) = reorder (fun l => (m ((c : Thread nD τ).loc main_arg2) : FVec Ideal S1x2048x8728 .f32) (ix3 0 k l)) j := by
  have h : V m c main_v11 = (truncf (F := Ideal) (φ := .f32) .bf16
      (HC (shapeCast S2048x8728 (m ((c : Thread nD τ).loc main_arg2) : FVec Ideal S1x2048x8728 .f32) shapeCasts_S1x2048x8728_S2048x8728)
        (HP (shapeCast S2048x8728 (m ((c : Thread nD τ).loc main_arg2) : FVec Ideal S1x2048x8728 .f32) shapeCasts_S1x2048x8728_S2048x8728))) bitsLt_bf16_f32) := by
    unfold_abbrev_sides
    simp only [hostOps0, hostOps0_1, hostOps0_2, List.flatten_cons, List.flatten_nil, List.append_nil, List.cons_append, List.nil_append]
    after_results <;> rfl
  rw [h]
  refine Eq.trans (b := HC _ (HP _) (ix2 k j)) rfl ((HC_apply _ k j).trans ?_)
  exact congrArg (fun z => reorder z j) (funext fun l => castW_apply _ k l)

/-- The norm's weights' array. -/
theorem V13 (c : Dev nD) (k : Fin 2048) :
    V m c main_v13 (ix2 0 k) = (m ((c : Thread nD τ).loc main_arg1) : FVec Ideal S1x2048 .f32) (ix2 0 k) := by
  have h : V m c main_v13 = (shapeCast S1x2048 (shapeCast S2048 (m ((c : Thread nD τ).loc main_arg1) : FVec Ideal S1x2048 .f32) shapeCasts_S1x2048_S2048) shapeCasts_S2048_S1x2048) := by
    unfold_abbrev_sides
    simp only [hostOps0, hostOps0_1, hostOps0_2, List.flatten_cons, List.flatten_nil, List.append_nil, List.cons_append, List.nil_append]
    after_results <;> rfl
  rw [h]; exact castG_apply _ k

end Cert.Proof.Inproj

end
-- ==== Proof.Inproj.Frame.lean ====
/- The input projection kernel runs on its arguments and returns them unchanged; its proof data say what each grid point
   leaves in each buffer. -/
module

public import proofs.«01_k».proof.Proof.Inproj.Body
public import proofs.«01_k».proof.Proof.Gen.Kernel3Ideal.Points
public import Idealize.ShloMosaic.Lib.Claim
public import Idealize.ShloMosaic.Lib.WordCmp
public import Idealize.ShloMosaic.Lib.Pipeline.FrameBody

@[expose] public section

set_option maxRecDepth 16384

noncomputable section

namespace Cert.Proof.Inproj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem lt_N (t : Fin cfg0.N) : t.val < 144 := Nat.lt_of_lt_of_eq t.isLt N_0

/-- A point's column block. -/
theorem coords_j : ∀ t : Fin cfg0.N, (grid0.coords t 1).val = t.val / 1 % 9 :=
  (fun t => Pipeline.Grid.coords_val t 1 (by decide) rfl : ∀ t : Fin grid0.N, (grid0.coords t 1).val = t.val / 1 % 9)

theorem first_iff (t : Fin cfg0.N) : first (grid0.coords t) ↔ t.val % 9 = 0 := by
  have ht := lt_N t
  simp only [first, coords_j t]
  word_cmp
theorem seven_iff (t : Fin cfg0.N) : seven (grid0.coords t) ↔ t.val % 9 = 7 := by
  have ht := lt_N t
  simp only [seven, k0_cond2, coords_j t]
  word_cmp
theorem eight_iff (t : Fin cfg0.N) : eight (grid0.coords t) ↔ t.val % 9 = 8 := by
  have ht := lt_N t
  simp only [eight, k0_cond4, coords_j t]
  word_cmp

/-- The point of `t`'s row block at column block `j`. -/
def sib (t : Fin cfg0.N) (j : Fin 9) : Fin cfg0.N := ⟨t.val / 9 * 9 + j.val, by have := lt_N t; have e := N_0; show _ < grid0.N; omega⟩

theorem sib_self (t : Fin cfg0.N) (j : Fin 9) (h : t.val % 9 = j.val) : sib t j = t := Fin.ext (by show t.val / 9 * 9 + j.val = t.val; omega)
theorem sib_prev (t t' : Fin cfg0.N) (j : Fin 9) (h : t.val / 9 = t'.val / 9) : sib t j = sib t' j := Fin.ext (by show t.val / 9 * 9 + j.val = t'.val / 9 * 9 + j.val; omega)

/-! ## What the points leave -/

/-- The normalised rows of a point's row block. -/
def hAt (c : Dev nD) (t : Fin cfg0.N) : Vec F S1024x2048 .bf16 := k0_pay1 (iblk m c 0 (sib t 0)) (iblk m c 1 (sib t 0))

/-- A point's block of the product. -/
def zAt (c : Dev nD) (t : Fin cfg0.N) : Vec F S1024x1024 .f32 := k0_pay2 (hAt m c t) (iblk m c 2 t)

/-- What the scratch holds before point `n`: past a row block's first point, the block's normalised rows. -/
def Carry (c : Dev nD) (n : ℕ) (h : Vec F S1024x2048 .bf16) : Prop := ∀ t : Fin cfg0.N, t.val = n → ¬t.val % 9 = 0 → h = hAt m c t

theorem hNew_eq (c : Dev nD) (t : Fin cfg0.N) (h : Vec F S1024x2048 .bf16) (hc : Carry m c t.val h) :
    hNew (grid0.coords t) (iblk m c 0 t) (iblk m c 1 t) h = hAt m c t := by
  unfold hNew
  by_cases h0 : t.val % 9 = 0
  · rw [if_pos ((first_iff t).mpr h0), hAt, sib_self t 0 h0]
  · rw [if_neg fun hf => h0 ((first_iff t).mp hf)]
    exact hc t rfl h0

theorem carry_succ (c : Dev nD) (t : Fin cfg0.N) : Carry m c (t.val + 1) (hAt m c t) := by
  intro t' e h0
  unfold hAt
  rw [sib_prev t t' 0 (by omega)]

/-! ## The proof data -/

abbrev scM0_0 : Memref sig .tc .vmem S1024x2048 .bf16 := Memref.whole cc0_scratch0

/-- What the launch hands the first point, one buffer at a time. -/
theorem PhiA0_eq (c : Dev nD) :
    (Pipeline.ΦA spec0 c : sProp 𝕄) = iprop((∃ d, owns (c : Thread nD τ) scM0_0 fullShare d) ∗ (∃ r, prngReg c r)) := by
  unfold Pipeline.ΦA
  rw [scopedRest0_eq]
  simp only [scM0_0, owns_whole]
  try rfl

/-- What holds between points: the scratch is `Carry`. -/
def PhiS (c : Dev nD) (n : ℕ) : sProp 𝕄 :=
  iprop((∃ h, ⌜Carry m c n h⌝ ∗ owns (c : Thread nD τ) scM0_0 fullShare h) ∗ (∃ r, prngReg c r))

/-- The proof data of the call: inputs keep their blocks, the product's block is `zAt`, the caches' blocks hold the columns
    of the row block's seventh and eighth column blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zAt m c t
    | ⟨4, _⟩ => cache4 (zAt m c (sib t 7))
    | ⟨5, _⟩ => cache5 (zAt m c (sib t 7))
    | ⟨6, _⟩ => cache6 (zAt m c (sib t 8))
  Φ t := PhiS m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = zAt m c t := by dsimp only [dats]
theorem after0_4 (c : Dev nD) (t : Fin cfg0.N) : (dats m 0 c).after 4 t = cache4 (zAt m c (sib t 7)) := by dsimp only [dats]
theorem after0_5 (c : Dev nD) (t : Fin cfg0.N) : (dats m 0 c).after 5 t = cache5 (zAt m c (sib t 7)) := by dsimp only [dats]
theorem after0_6 (c : Dev nD) (t : Fin cfg0.N) : (dats m 0 c).after 6 t = cache6 (zAt m c (sib t 8)) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-! ## The points that store no cache -/

theorem idle4_iff (t : Fin cfg0.N) : cfg0.idle 4 (grid0.coords t) = true ↔ ¬seven (grid0.coords t) := by
  show (!(k0_cond2 (grid0.coords t) == 1#1)) = true ↔ ¬(k0_cond2 (grid0.coords t) = 1#1)
  simp
theorem idle5_iff (t : Fin cfg0.N) : cfg0.idle 5 (grid0.coords t) = true ↔ ¬seven (grid0.coords t) := by
  show (!(k0_cond3 (grid0.coords t) == 1#1)) = true ↔ ¬(k0_cond3 (grid0.coords t) = 1#1)
  simp
theorem idle6_iff (t : Fin cfg0.N) : cfg0.idle 6 (grid0.coords t) = true ↔ ¬eight (grid0.coords t) := by
  show (!(k0_cond4 (grid0.coords t) == 1#1)) = true ↔ ¬(k0_cond4 (grid0.coords t) = 1#1)
  simp

/-- A window stored at column block 7 and written back at 8 holds then what 7 left. -/
theorem before_last (c : Dev nD) (w : Fin cfg0.W) (hfe : ∀ t, (cfg0.win w).fetch t = false)
    (hfl : ∀ t : Fin cfg0.N, (cfg0.win w).flush t = true ↔ t.val % 9 = 8) (hid : ∀ t : Fin cfg0.N, cfg0.idle w (grid0.coords t) = true ↔ ¬seven (grid0.coords t))
    (hk : ∀ t d, (dats m 0 c).kept w t d = (dats m 0 c).after w t) (t : Fin cfg0.N) (h8 : t.val % 9 = 8) (d) :
    (dats m 0 c).before w t d = (dats m 0 c).after w ⟨t.val - 1, Nat.lt_of_le_of_lt (Nat.sub_le _ _) t.isLt⟩ := by
  rw [Dat.before_of_pos _ w t (by omega) (hfe t), if_neg (fun h => by have := (hfl _).mp h; dsimp only at this; omega)]
  unfold Dat.left
  rw [show cfg0.idle w (cfg0.grid.coords ⟨t.val - 1, Nat.lt_of_le_of_lt (Nat.sub_le _ _) t.isLt⟩) = false from
    Bool.eq_false_iff.mpr fun h => (hid _).mp h ((seven_iff _).mpr (by dsimp only; omega))]
  exact hk _ d

theorem last4 (c : Dev nD) (t : Fin cfg0.N) (h8 : t.val % 9 = 8) (d) : (dats m 0 c).before 4 t d = cache4 (zAt m c (sib t 7)) := by
  rw [before_last m c 4 (fun _ => rfl) flush0_4 idle4_iff (fun _ _ => rfl) t h8 d, after0_4]
  exact congrArg (fun s => cache4 (zAt m c s)) (sib_prev _ _ 7 (by show (t.val - 1) / 9 = t.val / 9; omega))
theorem last5 (c : Dev nD) (t : Fin cfg0.N) (h8 : t.val % 9 = 8) (d) : (dats m 0 c).before 5 t d = cache5 (zAt m c (sib t 7)) := by
  rw [before_last m c 5 (fun _ => rfl) flush0_5 idle5_iff (fun _ _ => rfl) t h8 d, after0_5]
  exact congrArg (fun s => cache5 (zAt m c s)) (sib_prev _ _ 7 (by show (t.val - 1) / 9 = t.val / 9; omega))

/-- Where the window's block is stored, or written back, the buffer at `after` is what the obligation asks. -/
theorem leaves_after (c : Dev nD) (w : Fin cfg0.W) (t : Fin cfg0.N) (h : cfg0.idle w (grid0.coords t) = false ∨ (cfg0.win w).flush t = true) :
    owns (c : Thread nD τ) ((cfg0.win w).stage (cfg0.slots t w)) fullShare ((dats m 0 c).after w t) ⊢ ((dats m 0 c).leavesExact w t : sProp 𝕄) := by
  unfold Dat.leavesExact
  rcases h with h | h
  · rw [show cfg0.idle w (cfg0.grid.coords t) = false from h]
  · cases hi : cfg0.idle w (cfg0.grid.coords t)
    · exact .rfl
    · rw [h]

/-- Elsewhere it is the buffer as found. -/
theorem leaves_before (c : Dev nD) (w : Fin cfg0.W) (t : Fin cfg0.N) (d) (h : cfg0.idle w (grid0.coords t) = true) (hf : ¬(cfg0.win w).flush t = true) :
    owns (c : Thread nD τ) ((cfg0.win w).stage (cfg0.slots t w)) fullShare ((dats m 0 c).before w t d) ⊢ ((dats m 0 c).leavesExact w t : sProp 𝕄) := by
  rw [Dat.leavesExact_idle _ w t h (Bool.eq_false_iff.mpr hf)]
  iintro H
  iexists d
  iexact H

/-- What the body leaves in a cache's buffer is what the obligation asks. -/
theorem leave4 (c : Dev nD) (t : Fin cfg0.N) (d) :
    owns (c : Thread nD τ) (win0_4.stage (cfg0.slots t 4)) fullShare (if seven (grid0.coords t) then cache4 (zAt m c t) else (dats m 0 c).before 4 t d) ⊢ ((dats m 0 c).leavesExact 4 t : sProp 𝕄) := by
  by_cases h : seven (grid0.coords t)
  · have e := leaves_after m c 4 t (Or.inl (Bool.eq_false_iff.mpr fun hi => (idle4_iff t).mp hi h))
    rw [after0_4, sib_self t 7 ((seven_iff t).mp h)] at e
    rw [if_pos h]; exact e
  · rw [if_neg h]
    by_cases h8 : t.val % 9 = 8
    · have e := leaves_after m c 4 t (Or.inr ((flush0_4 t).mpr h8))
      rw [last4 m c t h8 d, ← after0_4]; exact e
    · exact leaves_before m c 4 t d ((idle4_iff t).mpr h) fun hf => h8 ((flush0_4 t).mp hf)
theorem leave5 (c : Dev nD) (t : Fin cfg0.N) (d) :
    owns (c : Thread nD τ) (win0_5.stage (cfg0.slots t 5)) fullShare (if seven (grid0.coords t) then cache5 (zAt m c t) else (dats m 0 c).before 5 t d) ⊢ ((dats m 0 c).leavesExact 5 t : sProp 𝕄) := by
  by_cases h : seven (grid0.coords t)
  · have e := leaves_after m c 5 t (Or.inl (Bool.eq_false_iff.mpr fun hi => (idle5_iff t).mp hi h))
    rw [after0_5, sib_self t 7 ((seven_iff t).mp h)] at e
    rw [if_pos h]; exact e
  · rw [if_neg h]
    by_cases h8 : t.val % 9 = 8
    · have e := leaves_after m c 5 t (Or.inr ((flush0_5 t).mpr h8))
      rw [last5 m c t h8 d, ← after0_5]; exact e
    · exact leaves_before m c 5 t d ((idle5_iff t).mpr h) fun hf => h8 ((flush0_5 t).mp hf)
theorem leave6 (c : Dev nD) (t : Fin cfg0.N) (d) :
    owns (c : Thread nD τ) (win0_6.stage (cfg0.slots t 6)) fullShare (if eight (grid0.coords t) then cache6 (zAt m c t) else (dats m 0 c).before 6 t d) ⊢ ((dats m 0 c).leavesExact 6 t : sProp 𝕄) := by
  by_cases h : eight (grid0.coords t)
  · have e := leaves_after m c 6 t (Or.inl (Bool.eq_false_iff.mpr fun hi => (idle6_iff t).mp hi h))
    rw [after0_6, sib_self t 8 ((eight_iff t).mp h)] at e
    rw [if_pos h]; exact e
  · rw [if_neg h]
    exact leaves_before m c 6 t d ((idle6_iff t).mpr h) fun hf => h ((eight_iff t).mpr ((flush0_6 t).mp hf))

/-! ## The body obligation -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t ∗ (dats m 0 c).leavesExact 5 t ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.castSucc = PhiS m c t.val from rfl, show (dats m 0 c).Φ t.succ = PhiS m c (t.val + 1) from rfl,
    after0_0, after0_1, after0_2, after0_3]
  unfold PhiS
  iintro ⟨⟨⟨%h, %hC, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ _ _ (iblk m c 0 t) (iblk m c 1 t) (iblk m c 2 t) ((dats m 0 c).before 4 t d4) ((dats m 0 c).before 5 t d5) ((dats m 0 c).before 6 t d6) h Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [HS]; · iexact HS
  rw [hNew_eq m c t h hC, show k0_pay2 (hAt m c t) (iblk m c 2 t) = zAt m c t from rfl]
  iintro ⟨H0, H1, H2, H3, H4, H5, H6, HS⟩
  isplitl [HS Hg]
  · isplitl [HS]
    · iexists _
      isplitr
      · ipureintro; exact carry_succ m c t
      iexact HS
    iexact Hg
  isplitl [Ho]; · iexact Ho
  isplitl [H0]; · iexact H0
  isplitl [H1]; · iexact H1
  isplitl [H2]; · iexact H2
  isplitl [H3]; · iexact H3
  isplitl [H4]; · iapply (leave4 m c t d4); iexact H4
  isplitl [H5]; · iapply (leave5 m c t d5); iexact H5
  iapply (leave6 m c t d6); iexact H6

theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : (Pipeline.ΦA spec0 c : sProp 𝕄) ⊢ (dats m 0 c).Φ 0 := by
  rw [PhiA0_eq, show (dats m 0 c).Φ 0 = PhiS m c 0 from rfl]
  unfold PhiS
  iintro ⟨⟨%h, HS⟩, Hg⟩
  isplitl [HS]
  · iexists h
    isplitr
    · ipureintro; exact fun t e h0 => absurd (by rw [e]) h0
    iexact HS
  iexact Hg

theorem hout (c : Dev nD) : (dats m 0 c).Φ (Fin.last _) ⊢ (Pipeline.ΦA spec0 c : sProp 𝕄) := by
  rw [PhiA0_eq, show (dats m 0 c).Φ (Fin.last _) = PhiS m c cfg0.N from rfl]
  unfold PhiS
  iintro ⟨⟨%h, %hC, HS⟩, Hg⟩
  isplitl [HS]
  · iexists h; iexact HS
  iexact Hg

set_option backward.isDefEq.respectTransparency.types false in
/-- The run ends, every array of the call as the proof data says and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The run ends with the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Inproj

end
-- ==== Proof.Inproj.Value.lean ====
/- The input projection kernel's four result arrays as functions of its arguments: each point leaves a block of 1024 rows and
   columns of the product, the seventh and eighth of a row block its caches, and the arrays are those the reference computes
   (Spec.lean `Z`, `KV`). -/
module

public import proofs.«01_k».proof.Proof.Inproj.Pay
public import proofs.«01_k».proof.Proof.Inproj.Host
public import proofs.«01_k».proof.Proof.Inproj.Frame
public import Idealize.ShloMosaic.Lib.Pipeline.Value

@[expose] public section

set_option maxRecDepth 16384

noncomputable section

namespace Cert.Proof.Inproj

open Cert.Kernel3Ideal Cert.Kernel3Ideal.Gen Idealize.ShloMosaic Idealize.ShloMosaic.TcCoe Cert.Proof.Merge
open Idealize.SL.Sem

variable (m : (ℓ : Loc nD τ sig) → Buf (Elt Ideal) ℓ) (ρ : Dev nD → PrngReg)

/-! ## Where each window's block lies -/

/-- Point `n`'s row `p`, its column `f` and its caches' row `q`. -/
def row (n : ℕ) (p : Fin 1024) : Fin 16384 := ⟨n / 9 % 16 * 1024 + p.val, by omega⟩
def col (n : ℕ) (f : Fin 1024) : Fin 9216 := ⟨n % 9 * 1024 + f.val, by omega⟩
def krow (n : ℕ) (q : Fin 4096) : Fin 65536 := ⟨n / 9 % 16 * 4096 + q.val, by omega⟩

theorem idx0 : ∀ t : Fin cfg0.N, win0_0.index t (0 : Fin 2) = t.val / 9 % 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 9 :=
  (by decide +kernel : ∀ t : Fin grid0.N, _)
theorem idx3 : ∀ t : Fin cfg0.N, win0_3.index t (0 : Fin 2) = t.val / 9 % 16 ∧ win0_3.index t (1 : Fin 2) = t.val % 9 :=
  (by decide +kernel : ∀ t : Fin grid0.N, _)
theorem idx4 : ∀ t : Fin cfg0.N, win0_4.index t (0 : Fin 2) = t.val / 9 % 16 ∧ win0_4.index t (1 : Fin 2) = 0 :=
  (by decide +kernel : ∀ t : Fin grid0.N, _)
theorem idx5 : ∀ t : Fin cfg0.N, win0_5.index t (0 : Fin 2) = t.val / 9 % 16 ∧ win0_5.index t (1 : Fin 2) = 0 :=
  (by decide +kernel : ∀ t : Fin grid0.N, _)
theorem idx6 : ∀ t : Fin cfg0.N, win0_6.index t (0 : Fin 2) = t.val / 9 % 16 ∧ win0_6.index t (1 : Fin 2) = 0 :=
  (by decide +kernel : ∀ t : Fin grid0.N, _)

/-- Window 0: the block's rows of the input. -/
theorem blk0 (c : Dev nD) (t : Fin cfg0.N) (p : Fin 1024) (j : Fin 2048) : iblk m c 0 t (ix2 p j) = V m c main_arg0 (ix2 (row t.val p) j) := by
  obtain ⟨e0, e1⟩ := idx0 t
  show V m c main_arg0 (((cfg0.win 0).blk t).view.emb (ix2 p j)) = _
  congr 1
  funext a; apply Fin.ext
  match a with
  | ⟨0, _⟩ => show win0_0.index t (0 : Fin 2) * 1024 + 1 * p.val = t.val / 9 % 16 * 1024 + p.val; omega
  | ⟨1, _⟩ => show win0_0.index t (1 : Fin 2) * 2048 + 1 * j.val = j.val; omega

/-- Window 1: the norm's weights. -/
theorem blk1 (c : Dev nD) (t : Fin cfg0.N) (j : Fin 2048) : iblk m c 1 t (ix2 0 j) = V m c main_v13 (ix2 0 j) := by
  obtain ⟨e0, e1⟩ := idx1 t
  show V m c main_v13 (((cfg0.win 1).blk t).view.emb (ix2 0 j)) = _
  congr 1
  funext a; apply Fin.ext
  match a with
  | ⟨0, _⟩ => show win0_1.index t (0 : Fin 2) * 1 + 1 * 0 = 0; omega
  | ⟨1, _⟩ => show win0_1.index t (1 : Fin 2) * 2048 + 1 * j.val = j.val; omega

/-- Window 2: the block's columns of the projection. -/
theorem blk2 (c : Dev nD) (t : Fin cfg0.N) (k : Fin 2048) (f : Fin 1024) : iblk m c 2 t (ix2 k f) = V m c main_v11 (ix2 k (col t.val f)) := by
  obtain ⟨e0, e1⟩ := idx2 t
  show V m c main_v11 (((cfg0.win 2).blk t).view.emb (ix2 k f)) = _
  congr 1
  funext a; apply Fin.ext
  match a with
  | ⟨0, _⟩ => show win0_2.index t (0 : Fin 2) * 2048 + 1 * k.val = k.val; omega
  | ⟨1, _⟩ => show win0_2.index t (1 : Fin 2) * 1024 + 1 * f.val = t.val % 9 * 1024 + f.val; omega

/-- Window 3: the block of the first result. -/
theorem emb3 (t : Fin cfg0.N) (p : Fin 1024) (f : Fin 1024) : ((cfg0.win 3).blk t).view.emb (ix2 p f) = ix2 (row t.val p) (col t.val f) := by
  obtain ⟨e0, e1⟩ := idx3 t
  funext a; apply Fin.ext
  match a with
  | ⟨0, _⟩ => show win0_3.index t (0 : Fin 2) * 1024 + 1 * p.val = t.val / 9 % 16 * 1024 + p.val; omega
  | ⟨1, _⟩ => show win0_3.index t (1 : Fin 2) * 1024 + 1 * f.val = t.val % 9 * 1024 + f.val; omega

/-- Window 4: the block of a cache. -/
theorem emb4 (t : Fin cfg0.N) (q : Fin 4096) (l : Fin 128) : ((cfg0.win 4).blk t).view.emb (ix2 q l) = ix2 (krow t.val q) l := by
  obtain ⟨e0, e1⟩ := idx4 t
  funext a; apply Fin.ext
  match a with
  | ⟨0, _⟩ => show win0_4.index t (0 : Fin 2) * 4096 + 1 * q.val = t.val / 9 % 16 * 4096 + q.val; omega
  | ⟨1, _⟩ => show win0_4.index t (1 : Fin 2) * 128 + 1 * l.val = l.val; omega

/-- Window 5: the block of a cache. -/
theorem emb5 (t : Fin cfg0.N) (q : Fin 4096) (l : Fin 128) : ((cfg0.win 5).blk t).view.emb (ix2 q l) = ix2 (krow t.val q) l := by
  obtain ⟨e0, e1⟩ := idx5 t
  funext a; apply Fin.ext
  match a with
  | ⟨0, _⟩ => show win0_5.index t (0 : Fin 2) * 4096 + 1 * q.val = t.val / 9 % 16 * 4096 + q.val; omega
  | ⟨1, _⟩ => show win0_5.index t (1 : Fin 2) * 128 + 1 * l.val = l.val; omega

/-- Window 6: the block of a cache. -/
theorem emb6 (t : Fin cfg0.N) (q : Fin 4096) (l : Fin 128) : ((cfg0.win 6).blk t).view.emb (ix2 q l) = ix2 (krow t.val q) l := by
  obtain ⟨e0, e1⟩ := idx6 t
  funext a; apply Fin.ext
  match a with
  | ⟨0, _⟩ => show win0_6.index t (0 : Fin 2) * 4096 + 1 * q.val = t.val / 9 % 16 * 4096 + q.val; omega
  | ⟨1, _⟩ => show win0_6.index t (1 : Fin 2) * 128 + 1 * l.val = l.val; omega

/-! ## A point's block of the product -/

abbrev ax (c : Dev nD) : FVec Ideal Sx .f32 := m ((c : Thread nD τ).loc main_arg0)
abbrev ag (c : Dev nD) : FVec Ideal Sg .f32 := m ((c : Thread nD τ).loc main_arg1)
abbrev aw (c : Dev nD) : FVec Ideal Sw .f32 := m ((c : Thread nD τ).loc main_arg2)

theorem rd0 (c : Dev nD) (t : Fin cfg0.N) (p : Fin 1024) (j : Fin 2048) : iblk m c 0 t (ix2 p j) = ax m c (ix2 (row t.val p) j) :=
  (blk0 m c t p j).trans (congrFun (V_main_arg0 m c) _)
theorem rd1 (c : Dev nD) (t : Fin cfg0.N) (j : Fin 2048) : iblk m c 1 t (ix2 0 j) = ag m c (ix2 0 j) :=
  (blk1 m c t j).trans (V13 m c j)
theorem rd2 (c : Dev nD) (t : Fin cfg0.N) (k : Fin 2048) (f : Fin 1024) : iblk m c 2 t (ix2 k f) = reorder (fun l => aw m c (ix3 0 k l)) (col t.val f) :=
  (blk2 m c t k f).trans (V11 m c k _)

/-- A row times the reordered columns is the reordered row of products. -/
theorem sum_reorder (h : Fin 2048 → EReal) (w : Fin 2048 → Fin 8728 → EReal) (j : Fin 9216) :
    (∑ k : Fin 2048, h k * reorder (w k) j) = reorder (fun l => ∑ k : Fin 2048, h k * w k l) j := by
  unfold reorder
  split_ifs
  · rfl
  · rfl
  · rfl
  · exact Finset.sum_eq_zero fun k _ => mul_zero _

theorem row_sib (t : Fin cfg0.N) (j : Fin 9) (p : Fin 1024) : row (sib t j).val p = row t.val p :=
  Fin.ext (by show (t.val / 9 * 9 + j.val) / 9 % 16 * 1024 + p.val = t.val / 9 % 16 * 1024 + p.val; omega)
theorem col_sib (t : Fin cfg0.N) (j : Fin 9) (f : Fin 1024) : (col (sib t j).val f).val = j.val * 1024 + f.val := by
  show (t.val / 9 * 9 + j.val) % 9 * 1024 + f.val = j.val * 1024 + f.val
  omega

/-- A point's normalised rows. -/
theorem hAt_apply (c : Dev nD) (t : Fin cfg0.N) (p : Fin 1024) (k : Fin 2048) :
    hAt m c t (ix2 p k) = hid (ax m c) (ag m c) (row t.val p) k := by
  unfold hid
  refine (pay1_apply _ _ p k).trans ?_
  rw [rd1]
  refine congrArg (fun r => nrm r (ag m c (ix2 0 k)) k) (funext fun l => ?_)
  rw [rd0, row_sib]

/-- A point's block of the product. -/
theorem zAt_apply (c : Dev nD) (t : Fin cfg0.N) (p : Fin 1024) (f : Fin 1024) :
    zAt m c t (ix2 p f) = reorder (proj (ax m c) (ag m c) (aw m c) (row t.val p)) (col t.val f) := by
  refine (pay2_apply _ _ p f).trans ?_
  refine (Finset.sum_congr rfl fun k _ => ?_).trans (sum_reorder (fun k => hid (ax m c) (ag m c) (row t.val p) k) (fun k l => aw m c (ix3 0 k l)) (col t.val f))
  exact congrArg₂ (fun a b : EReal => a * b) (hAt_apply m c t p k) (rd2 m c t k f)

/-- A row block's cache, of its column block `j`'s columns from `lo`. -/
theorem cache_apply (c : Dev nD) (t : Fin cfg0.N) (j : Fin 9) (lo : ℕ) (hlo : lo ≤ 512) (dst : Fin 8217) (hd : j.val * 1024 + lo = dst.val + 4096) (h3 : 3072 ≤ dst.val) (h4 : dst.val ≤ 4096) (q : Fin 4096) (l : Fin 128) :
    zAt m c (sib t j) (ix2 ⟨q.val / 4, by omega⟩ ⟨lo + (q.val % 4 * 128 + l.val), by omega⟩)
      = KV (ax m c) (ag m c) (aw m c) dst (ix2 (krow t.val q) l) := by
  have hto' : j.val ≤ 8 := by omega
  have hj : dst.val + 511 < 8728 := by omega
  rw [zAt_apply, row_sib]
  refine (reorder_of _ _ ⟨dst.val + (q.val % 4 * 128 + l.val), by omega⟩ (Or.inr (Or.inr ?_))).trans ?_
  · rw [col_sib]; dsimp only; omega
  · unfold KV
    refine congrArg₂ (proj (ax m c) (ag m c) (aw m c)) (Fin.ext ?_) (Fin.ext ?_)
    · show t.val / 9 % 16 * 1024 + q.val / 4 = (t.val / 9 % 16 * 4096 + q.val) / 4; omega
    · show dst.val + (q.val % 4 * 128 + l.val) = dst.val + ((t.val / 9 % 16 * 4096 + q.val) % 4 * 128 + l.val); omega

/-! ## The results -/

abbrev val0 (c : Dev nD) : FVec Ideal Sz .f32 := Z (ax m c) (ag m c) (aw m c)
abbrev val1 (c : Dev nD) : FVec Ideal Sk .f32 := KV (ax m c) (ag m c) (aw m c) 3072
abbrev val2 (c : Dev nD) : FVec Ideal Sk .f32 := KV (ax m c) (ag m c) (aw m c) 3584
abbrev val3 (c : Dev nD) : FVec Ideal Sk .f32 := KV (ax m c) (ag m c) (aw m c) 4096

/-- What point `t` writes back to the first result is the point's block of `val0`. -/
theorem flushed3_eq (c : Dev nD) (t : Fin cfg0.N) :
    (dats m 0 c).flushed 3 t = ((cfg0.win 3).blk t).view.read (Elt Ideal) (val0 m c) := by
  have e : (dats m 0 c).flushed 3 t = zAt m c t := by
    show (cfg0.win 3).cut (grid0.coords t) ((dats m 0 c).after 3 t) = _
    rw [after0_3]; rfl
  rw [e]
  funext (i : S1024x1024.Idx)
  idx_vars i
  show zAt m c t (ix2 i0 i1) = val0 m c (((cfg0.win 3).blk t).view.emb (ix2 i0 i1))
  rw [emb3, zAt_apply]
  rfl

/-- Every index of the first result lies in the block of its point. -/
theorem covered3 (i : S16384x9216.Idx) : ∃ t : Fin cfg0.N, (cfg0.win 3).flush t = true ∧ i ∈ ((cfg0.win 3).blk t).view.set := by
  idx_vars i
  have hN : i0.val / 1024 * 9 + i1.val / 1024 < cfg0.N := lt_of_lt_of_eq (by omega : _ < 144) N_0.symm
  refine ⟨⟨i0.val / 1024 * 9 + i1.val / 1024, hN⟩, flush0_3 _, ?_⟩
  have h := ((cfg0.win 3).blk (⟨i0.val / 1024 * 9 + i1.val / 1024, hN⟩ : Fin cfg0.N)).view.emb_mem_set (ix2 (⟨i0.val % 1024, by omega⟩ : Fin 1024) (⟨i1.val % 1024, by omega⟩ : Fin 1024))
  rw [emb3] at h
  have er : row (i0.val / 1024 * 9 + i1.val / 1024) (⟨i0.val % 1024, by omega⟩ : Fin 1024) = i0 :=
    Fin.ext (by show (i0.val / 1024 * 9 + i1.val / 1024) / 9 % 16 * 1024 + i0.val % 1024 = i0.val; omega)
  have ec : col (i0.val / 1024 * 9 + i1.val / 1024) (⟨i1.val % 1024, by omega⟩ : Fin 1024) = i1 :=
    Fin.ext (by show (i0.val / 1024 * 9 + i1.val / 1024) % 9 * 1024 + i1.val % 1024 = i1.val; omega)
  rwa [er, ec] at h

theorem final3 (c : Dev nD) : (dats m 0 c).arrAt 3 cfg0.N = val0 m c :=
  (dats m 0 c).arrAt_eq_of_cover 3 (val0 m c) (fun t _ => flushed3_eq m c t) covered3

/-- A cache's row lies in the block its row block's last point writes back. -/
theorem last_lt (i0 : Fin 65536) : i0.val / 4096 * 9 + 8 < cfg0.N := lt_of_lt_of_eq (by omega : _ < 144) N_0.symm
theorem krow_last (i0 : Fin 65536) : krow (i0.val / 4096 * 9 + 8) (⟨i0.val % 4096, by omega⟩ : Fin 4096) = i0 :=
  Fin.ext (by show (i0.val / 4096 * 9 + 8) / 9 % 16 * 4096 + i0.val % 4096 = i0.val; omega)

/-- What point `t` writes back to the second result is the point's block of `val1`. -/
theorem flushed4_eq (c : Dev nD) (t : Fin cfg0.N) :
    (dats m 0 c).flushed 4 t = ((cfg0.win 4).blk t).view.read (Elt Ideal) (val1 m c) := by
  have e : (dats m 0 c).flushed 4 t = cache4 (zAt m c (sib t 7)) := by
    show (cfg0.win 4).cut (grid0.coords t) ((dats m 0 c).after 4 t) = _
    rw [after0_4]; rfl
  rw [e]
  funext (i : S4096x128.Idx)
  idx_vars i
  show cache4 (zAt m c (sib t 7)) (ix2 i0 i1) = val1 m c (((cfg0.win 4).blk t).view.emb (ix2 i0 i1))
  rw [emb4, cache4_apply]
  exact cache_apply m c t 7 0 (by omega) 3072 rfl (by decide) (by decide) i0 i1

/-- Every index of the second result lies in the block of its rows' last point. -/
theorem covered4 (i : S65536x128.Idx) : ∃ t : Fin cfg0.N, (cfg0.win 4).flush t = true ∧ i ∈ ((cfg0.win 4).blk t).view.set := by
  idx_vars i
  refine ⟨⟨i0.val / 4096 * 9 + 8, last_lt i0⟩, (flush0_4 _).mpr (by show (i0.val / 4096 * 9 + 8) % 9 = 8; omega), ?_⟩
  have h := ((cfg0.win 4).blk (⟨i0.val / 4096 * 9 + 8, last_lt i0⟩ : Fin cfg0.N)).view.emb_mem_set (ix2 (⟨i0.val % 4096, by omega⟩ : Fin 4096) i1)
  rw [emb4] at h
  rwa [show krow (⟨i0.val / 4096 * 9 + 8, last_lt i0⟩ : Fin cfg0.N).val (⟨i0.val % 4096, by omega⟩ : Fin 4096) = i0 from krow_last i0] at h

theorem final4 (c : Dev nD) : (dats m 0 c).arrAt 4 cfg0.N = val1 m c :=
  (dats m 0 c).arrAt_eq_of_cover 4 (val1 m c) (fun t _ => flushed4_eq m c t) covered4

/-- What point `t` writes back to the third result is the point's block of `val2`. -/
theorem flushed5_eq (c : Dev nD) (t : Fin cfg0.N) :
    (dats m 0 c).flushed 5 t = ((cfg0.win 5).blk t).view.read (Elt Ideal) (val2 m c) := by
  have e : (dats m 0 c).flushed 5 t = cache5 (zAt m c (sib t 7)) := by
    show (cfg0.win 5).cut (grid0.coords t) ((dats m 0 c).after 5 t) = _
    rw [after0_5]; rfl
  rw [e]
  funext (i : S4096x128.Idx)
  idx_vars i
  show cache5 (zAt m c (sib t 7)) (ix2 i0 i1) = val2 m c (((cfg0.win 5).blk t).view.emb (ix2 i0 i1))
  rw [emb5, cache5_apply]
  exact cache_apply m c t 7 512 (by omega) 3584 rfl (by decide) (by decide) i0 i1

/-- Every index of the third result lies in the block of its rows' last point. -/
theorem covered5 (i : S65536x128.Idx) : ∃ t : Fin cfg0.N, (cfg0.win 5).flush t = true ∧ i ∈ ((cfg0.win 5).blk t).view.set := by
  idx_vars i
  refine ⟨⟨i0.val / 4096 * 9 + 8, last_lt i0⟩, (flush0_5 _).mpr (by show (i0.val / 4096 * 9 + 8) % 9 = 8; omega), ?_⟩
  have h := ((cfg0.win 5).blk (⟨i0.val / 4096 * 9 + 8, last_lt i0⟩ : Fin cfg0.N)).view.emb_mem_set (ix2 (⟨i0.val % 4096, by omega⟩ : Fin 4096) i1)
  rw [emb5] at h
  rwa [show krow (⟨i0.val / 4096 * 9 + 8, last_lt i0⟩ : Fin cfg0.N).val (⟨i0.val % 4096, by omega⟩ : Fin 4096) = i0 from krow_last i0] at h

theorem final5 (c : Dev nD) : (dats m 0 c).arrAt 5 cfg0.N = val2 m c :=
  (dats m 0 c).arrAt_eq_of_cover 5 (val2 m c) (fun t _ => flushed5_eq m c t) covered5

/-- What point `t` writes back to the fourth result is the point's block of `val3`. -/
theorem flushed6_eq (c : Dev nD) (t : Fin cfg0.N) :
    (dats m 0 c).flushed 6 t = ((cfg0.win 6).blk t).view.read (Elt Ideal) (val3 m c) := by
  have e : (dats m 0 c).flushed 6 t = cache6 (zAt m c (sib t 8)) := by
    show (cfg0.win 6).cut (grid0.coords t) ((dats m 0 c).after 6 t) = _
    rw [after0_6]; rfl
  rw [e]
  funext (i : S4096x128.Idx)
  idx_vars i
  show cache6 (zAt m c (sib t 8)) (ix2 i0 i1) = val3 m c (((cfg0.win 6).blk t).view.emb (ix2 i0 i1))
  rw [emb6, cache6_apply]
  exact cache_apply m c t 8 0 (by omega) 4096 rfl (by decide) (by decide) i0 i1

/-- Every index of the fourth result lies in the block of its rows' last point. -/
theorem covered6 (i : S65536x128.Idx) : ∃ t : Fin cfg0.N, (cfg0.win 6).flush t = true ∧ i ∈ ((cfg0.win 6).blk t).view.set := by
  idx_vars i
  refine ⟨⟨i0.val / 4096 * 9 + 8, last_lt i0⟩, (flush0_6 _).mpr (by show (i0.val / 4096 * 9 + 8) % 9 = 8; omega), ?_⟩
  have h := ((cfg0.win 6).blk (⟨i0.val / 4096 * 9 + 8, last_lt i0⟩ : Fin cfg0.N)).view.emb_mem_set (ix2 (⟨i0.val % 4096, by omega⟩ : Fin 4096) i1)
  rw [emb6] at h
  rwa [show krow (⟨i0.val / 4096 * 9 + 8, last_lt i0⟩ : Fin cfg0.N).val (⟨i0.val % 4096, by omega⟩ : Fin 4096) = i0 from krow_last i0] at h

theorem final6 (c : Dev nD) : (dats m 0 c).arrAt 6 cfg0.N = val3 m c :=
  (dats m 0 c).arrAt_eq_of_cover 6 (val3 m c) (fun t _ => flushed6_eq m c t) covered6

end Cert.Proof.Inproj

end
-- ==== Proof.Inproj.Ref.lean ====
/- The input projection reference's four results, as the arrays of Spec.lean. -/
module

public import proofs.«01_k».proof.Proof.Gen.Reference3Ideal.Run
public import proofs.«01_k».proof.Proof.Inproj.Spec

@[expose] public section

set_option maxRecDepth 16384

noncomputable section

namespace Cert.Proof.Inproj

open Cert.Reference3Ideal Cert.Reference3Ideal.Gen Cert.Reference3Ideal.Value Idealize.ShloMosaic Idealize.ShloMosaic.TcCoe
open Idealize.SL.Sem Cert.Proof.Merge

variable (x : FVec Ideal S16384x2048 .f32) (g : FVec Ideal S1x2048 .f32) (w : FVec Ideal S1x2048x8728 .f32)

/-- The operations' term for the normalised rows. -/
abbrev TH : FVec Ideal S16384x2048 .f32 :=
  mulf (mulf x (broadcastInDim S16384x2048 ![0, 1] bcast_S16384x1_S16384x2048_0_1
      (Host.rsqrt (addf (Host.divf (broadcastInDim S16384x1 ![0] bcast_S16384_S16384x1_0
          (Host.reduceAdd (mulf x x) (constant S_ .f32 0x00000000#32) reducesTo_S16384x2048_S16384_d1 h_S_))
          (broadcastInDim S16384x1 ![] bcast_S_S16384x1 (constant S_ .f32 0x45000000#32)))
        (broadcastInDim S16384x1 ![] bcast_S_S16384x1 (constant S_ .f32 0x358637BD#32))))))
    (broadcastInDim S16384x2048 ![0, 1] bcast_S1x2048_S16384x2048_0_1
      (broadcastInDim S1x2048 ![1] bcast_S2048_S1x2048_1 (shapeCast S2048 g shapeCasts_S1x2048_S2048)))

theorem TH_apply (r : Fin 16384) (k : Fin 2048) : TH x g (ix2 r k) = hid x g r k := by
  unfold hid nrm
  pointwise!

/-- The operations' term for the product, of the normalised rows' array. -/
abbrev TP (H : FVec Ideal S16384x2048 .f32) : FVec Ideal S16384x8728 .f32 :=
  Host.dotGeneral dot_S16384x2048_S2048x8728_S16384x8728_1_0_0_1_n_n none H (shapeCast S2048x8728 w shapeCasts_S1x2048x8728_S2048x8728)

theorem TP_apply (H : FVec Ideal S16384x2048 .f32) (r : Fin 16384) (j : Fin 8728) : TP w H (ix2 r j) = ∑ k : Fin 2048, H (ix2 r k) * w (ix3 0 k j) := by
  pointwise!

theorem TP_TH (r : Fin 16384) (j : Fin 8728) : TP w (TH x g) (ix2 r j) = proj x g w r j := by
  rw [TP_apply]
  unfold proj
  exact Finset.sum_congr rfl fun k _ => by rw [TH_apply]

/-- The operations' term for the first result, of the product. -/
abbrev TZ (z : FVec Ideal S16384x8728 .f32) : FVec Ideal S16384x9216 .f32 :=
  concatenate S16384x9216 1 [⟨S16384x1024, extractStridedSlice S16384x1024 ![0, 0] z slices_S16384x8728_S16384x1024_0_0⟩,
    ⟨S16384x1024, extractStridedSlice S16384x1024 ![0, 1024] z slices_S16384x8728_S16384x1024_0_1024⟩,
    ⟨S16384x4096, extractStridedSlice S16384x4096 ![0, 4632] z slices_S16384x8728_S16384x4096_0_4632⟩,
    ⟨S16384x1024, extractStridedSlice S16384x1024 ![0, 2048] z slices_S16384x8728_S16384x1024_0_2048⟩,
    ⟨S16384x512, extractStridedSlice S16384x512 ![0, 3072] z slices_S16384x8728_S16384x512_0_3072⟩,
    ⟨S16384x512, extractStridedSlice S16384x512 ![0, 3584] z slices_S16384x8728_S16384x512_0_3584⟩,
    ⟨S16384x512, extractStridedSlice S16384x512 ![0, 4096] z slices_S16384x8728_S16384x512_0_4096⟩,
    ⟨S16384x24, extractStridedSlice S16384x24 ![0, 4608] z slices_S16384x8728_S16384x24_0_4608⟩,
    ⟨S16384x488, broadcastInDim S16384x488 ![] bcast_S_S16384x488 (constant (F := Ideal) S_ .f32 0x00000000#32)⟩]
    concatenates_S16384x1024_S16384x1024_S16384x4096_S16384x1024_S16384x512_S16384x512_S16384x512_S16384x24_S16384x488_S16384x9216_d1

theorem TZ_apply (z : FVec Ideal S16384x8728 .f32) (r : Fin 16384) (j : Fin 9216) : TZ z (ix2 r j) = reorder (fun k => z (ix2 r k)) j := by
  pointwise
  split_ifs
  all_goals first
    | refine (reorder_of (fun k => z (ix2 r k)) j _ ?_).symm; first | omega | (simp only []; omega)
    | exact (reorder_pad _ _ (by omega)).symm
    | exact (reorder_of (fun k => z (ix2 r k)) j ⟨j.val, by omega⟩ (Or.inl ⟨by omega, rfl⟩)).symm

/-- The operations' term for a cache, of the product. -/
abbrev TK (z : FVec Ideal S16384x8728 .f32) (lo : ℕ) (h : S16384x8728.Slices ![0, lo] S16384x512) : FVec Ideal S65536x128 .f32 :=
  shapeCast S65536x128 (extractStridedSlice S16384x512 ![0, lo] z h) shapeCasts_S16384x512_S65536x128

/-- Four rows of 128 of a reshaped array are one row of 512. -/
theorem rows_apply (v : FVec Ideal S16384x512 .f32) (i : S65536x128.Idx) :
    shapeCast S65536x128 v shapeCasts_S16384x512_S65536x128 i = v (ix2 ⟨(i 0).val / 4, by have h : (i 0).val < 65536 := (i 0).isLt; omega⟩
      ⟨(i 0).val % 4 * 128 + (i 1).val, by have h : (i 1).val < 128 := (i 1).isLt; omega⟩) := by
  have h0 : (i 0).val < 65536 := (i 0).isLt
  have h1 : (i 1).val < 128 := (i 1).isLt
  idx_vars i
  pointwise

theorem TK_eq (lo : Fin 8217) (h : S16384x8728.Slices ![0, lo.val] S16384x512) : TK (TP w (TH x g)) lo.val h = KV x g w lo := by
  funext i
  rw [TK, rows_apply]
  unfold KV
  rw [← TP_TH]
  pointwise

theorem TZ_eq : TZ (TP w (TH x g)) = Z x g w := by
  funext i
  idx_vars i
  rw [TZ_apply]
  unfold Z
  exact congrArg (fun z => reorder z i1) (funext fun k => TP_TH x g w i0 k)

variable (m : (ℓ : Loc nD τ sig) → Buf (Elt Ideal) ℓ) (ρ : Dev nD → PrngReg)

/-- The reference runs, its results the arrays of its arguments, the arguments unchanged. -/
theorem ref_run : θ_run defs (onTc (τ := τ) (main (F := Ideal))) ⟨m, fun _ => 0, ρ⟩ fun r => ∀ c : Dev nD,
      r.2.mem ((c.tc : Thread nD τ).loc main_v25) = Z (m ((c.tc : Thread nD τ).loc main_arg0)) (m ((c.tc : Thread nD τ).loc main_arg1)) (m ((c.tc : Thread nD τ).loc main_arg2))
      ∧ r.2.mem ((c.tc : Thread nD τ).loc main_v26) = KV (m ((c.tc : Thread nD τ).loc main_arg0)) (m ((c.tc : Thread nD τ).loc main_arg1)) (m ((c.tc : Thread nD τ).loc main_arg2)) 3072
      ∧ r.2.mem ((c.tc : Thread nD τ).loc main_v27) = KV (m ((c.tc : Thread nD τ).loc main_arg0)) (m ((c.tc : Thread nD τ).loc main_arg1)) (m ((c.tc : Thread nD τ).loc main_arg2)) 3584
      ∧ r.2.mem ((c.tc : Thread nD τ).loc main_v28) = KV (m ((c.tc : Thread nD τ).loc main_arg0)) (m ((c.tc : Thread nD τ).loc main_arg1)) (m ((c.tc : Thread nD τ).loc main_arg2)) 4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((show res_main_v25 m c = TZ (TP _ (TH _ _)) from rfl).trans (TZ_eq _ _ _)),
      (h c).2.1.trans (TK_eq _ _ _ 3072 slices_S16384x8728_S16384x512_0_3072),
      (h c).2.2.1.trans (TK_eq _ _ _ 3584 slices_S16384x8728_S16384x512_0_3584),
      (h c).2.2.2.1.trans (TK_eq _ _ _ 4096 slices_S16384x8728_S16384x512_0_4096), (h c).2.2.2.2⟩) (run m ρ)

end Cert.Proof.Inproj

end
-- ==== Proof.Inproj.Claim.lean ====
/- The input projection call's claim: from equal arguments, on the extended reals, the kernel and the reference end with the
   same reordered projection and the same three caches. -/
module

public import proofs.«01_k».proof.Defs
public import proofs.«01_k».proof.Proof.Inproj.Value
public import proofs.«01_k».proof.Proof.Inproj.Ref

@[expose] public section

noncomputable section

namespace Cert.Proof.Inproj

open Idealize.ShloMosaic Idealize.ShloMosaic.TcCoe Idealize.SL.Sem

/-- The kernel's four results after its run are `val0` to `val3`, the reference's `Z` and `KV`, of equal arguments. -/
theorem algebraic : Cert.algebraic_Kernel3Ideal_Reference3Ideal := by
  intro m g m' g' _ hargs
  refine ⟨fun c => val0 m c, fun c => val1 m c, fun c => val2 m c, fun c => val3 m c, ?_, ?_⟩
  · exact (θ_run Cert.Kernel3Ideal.defs _ _).mono (fun r h c => ⟨((h.1 c).1 3).trans (final3 m c), ((h.1 c).1 4).trans (final4 m c),
      ((h.1 c).1 5).trans (final5 m c), ((h.1 c).1 6).trans (final6 m c), h.2.1 c⟩)
      (θ_run_and (run_main m g) (frame m g))
  · refine (θ_run Cert.Reference3Ideal.defs _ _).mono (fun r h c => ⟨(h c).1.trans ?_, (h c).2.1.trans ?_, (h c).2.2.1.trans ?_, (h c).2.2.2.1.trans ?_, (h c).2.2.2.2⟩)
      (ref_run m' g')
    all_goals
      obtain ⟨h0, h1, h2⟩ := hargs c
      rw [h0, h1, h2]

end Cert.Proof.Inproj

end
-- ==== Proof.Inproj.Same.lean ====
/- The input projection kernel and the kernel to be proved about are one program: on machine words their definitions are equal,
   so a run of the one is a run of the other. -/
module

public import proofs.«01_k».proof.Defs
public import proofs.«01_k».proof.Proof.Gen.Kernel3.Frame
public import proofs.«01_k».proof.Proof.Inproj.Frame

@[expose] public section

set_option maxRecDepth 16384
set_option maxHeartbeats 4000000

noncomputable section

namespace Cert.Proof.Inproj

open Idealize Idealize.ShloMosaic

attribute [local instance] Cert.Kernel3.Gen.facts Cert.Kernel3Ideal.Gen.facts

/-- The two bodies are equal. -/
theorem body_eq : @Cert.Kernel3.cc0_inproj Bits _ _ = @Cert.Kernel3Ideal.cc0_inproj Bits _ _ := by
  delta Cert.Kernel3.cc0_inproj Cert.Kernel3Ideal.cc0_inproj
  rfl

/-- So the two cores' definitions are. -/
theorem core_eq : (Cert.Kernel3.defs₀ (F := Bits)) = (Cert.Kernel3Ideal.defs₀ (F := Bits)) := by
  delta Cert.Kernel3.defs₀ Cert.Kernel3Ideal.defs₀
  refine congrArg Defs.onTc ?_
  funext l x
  match l, x with
  | 0, (t, s) =>
    dsimp only
    rw [body_eq]
    rfl

/-- And the two programs'. -/
theorem defs_eq : (Cert.Kernel3.defs (F := Bits)) = (Cert.Kernel3Ideal.defs (F := Bits)) := by
  delta Cert.Kernel3.defs Cert.Kernel3Ideal.defs
  rw [core_eq]
  rfl

/-- The kernel's run on machine words ends with the arguments unchanged and every counter zero. -/
theorem quiescent : Cert.quiescent_Kernel3 := by
  intro m g _
  rw [defs_eq]
  exact frame (F := Bits) m g

end Cert.Proof.Inproj

end
-- ==== Proof.lean ====
/- The certificate's claims, assembled: each program's frame, that the ideal kernel is the kernel, and that kernel and
   reference agree on the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Kernel2Ideal.Value
public import proofs.«01_k».proof.Proof.Merge.Claim
public import proofs.«01_k».proof.Proof.Ffn.Claim
public import proofs.«01_k».proof.Proof.Ffn.Same
public import proofs.«01_k».proof.Proof.Inproj.Claim
public import proofs.«01_k».proof.Proof.Inproj.Same

@[expose] public section

noncomputable section

namespace Cert.Proof

open Idealize.ShloMosaic Idealize.SL.Sem

/-- The merge reference runs to an end without a fault and leaves its arguments as they were. -/
theorem quiescent_mergeReference : Cert.quiescent_Reference2Ideal := fun m g _ =>
  (θ_run Cert.Reference2Ideal.defs _ _).mono (fun r h => ⟨fun c => (h c).2.2, sem_eq_zero_of_no_sems rfl r.2⟩) (Merge.ref_run m g)

/-- The feed-forward reference runs to an end without a fault and leaves its arguments as they were. -/
theorem quiescent_ffnReference : Cert.quiescent_ReferenceIdeal := fun m g _ =>
  (θ_run Cert.ReferenceIdeal.defs _ _).mono (fun r h => ⟨fun c => (h c).2.2, sem_eq_zero_of_no_sems rfl r.2⟩) (Ffn.ref_run m g)

/-- The input projection reference runs to an end without a fault and leaves its arguments as they were. -/
theorem quiescent_inprojReference : Cert.quiescent_Reference3Ideal := fun m g _ =>
  (θ_run Cert.Reference3Ideal.defs _ _).mono (fun r h => ⟨fun c => (h c).2.2.2.2, sem_eq_zero_of_no_sems rfl r.2⟩) (Inproj.ref_run m g)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Ffn.quiescent, fun m ρ _ => Ffn.frame m ρ, quiescent_ffnReference,
    fun m ρ _ => Cert.Kernel2.Gen.frame m ρ, fun m ρ _ => Cert.Kernel2Ideal.Gen.frame m ρ, quiescent_mergeReference,
    Inproj.quiescent, fun m ρ _ => Inproj.frame m ρ, quiescent_inprojReference,
    trivial, Ffn.algebraic, trivial, Merge.algebraic, trivial, Inproj.algebraic⟩

end Cert.Proof

end
